-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v459) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S1x1024 : Shape := ⟨2, ![1, 1024]⟩
abbrev S1x1024x6160 : Shape := ⟨3, ![1, 1024, 6160]⟩
abbrev S1x16x512 : Shape := ⟨3, ![1, 16, 512]⟩
abbrev S1x512 : Shape := ⟨2, ![1, 512]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1024 : Shape := ⟨1, ![1024]⟩
abbrev S1024x6160 : Shape := ⟨2, ![1024, 6160]⟩
abbrev S16x512 : Shape := ⟨2, ![16, 512]⟩
abbrev S512 : Shape := ⟨1, ![512]⟩
abbrev S8x128x128 : Shape := ⟨3, ![8, 128, 128]⟩
abbrev S8x128 : Shape := ⟨2, ![8, 128]⟩
abbrev S2048x1024 : Shape := ⟨2, ![2048, 1024]⟩
abbrev S1024x6144 : Shape := ⟨2, ![1024, 6144]⟩
abbrev S1024x16 : Shape := ⟨2, ![1024, 16]⟩
abbrev S_ : Shape := ⟨0, ![]⟩
abbrev S1024x128 : Shape := ⟨2, ![1024, 128]⟩
abbrev S128x512 : Shape := ⟨2, ![128, 512]⟩
abbrev S128x8 : Shape := ⟨2, ![128, 8]⟩
abbrev S128x8x128 : Shape := ⟨3, ![128, 8, 128]⟩
abbrev S128x1024 : Shape := ⟨2, ![128, 1024]⟩
abbrev S1x512x1024 : Shape := ⟨3, ![1, 512, 1024]⟩
abbrev S512x2048 : Shape := ⟨2, ![512, 2048]⟩
abbrev S4x256x128 : Shape := ⟨3, ![4, 256, 128]⟩
abbrev S512x1024 : Shape := ⟨2, ![512, 1024]⟩
abbrev S512x1 : Shape := ⟨2, ![512, 1]⟩
abbrev S128x128 : Shape := ⟨2, ![128, 128]⟩
abbrev S1024x512 : Shape := ⟨2, ![1024, 512]⟩
abbrev S512x512 : Shape := ⟨2, ![512, 512]⟩
abbrev S512x128 : Shape := ⟨2, ![512, 128]⟩
abbrev S64x64 : Shape := ⟨2, ![64, 64]⟩
abbrev S1024x256 : Shape := ⟨2, ![1024, 256]⟩
abbrev S512x256 : Shape := ⟨2, ![512, 256]⟩
abbrev S64x128 : Shape := ⟨2, ![64, 128]⟩
abbrev S1x128 : Shape := ⟨2, ![1, 128]⟩
abbrev S64x256 : Shape := ⟨2, ![64, 256]⟩
abbrev S256x128 : Shape := ⟨2, ![256, 128]⟩
abbrev S1x256x128 : Shape := ⟨3, ![1, 256, 128]⟩
abbrev S64 : Shape := ⟨1, ![64]⟩
abbrev S64x1 : Shape := ⟨2, ![64, 1]⟩
abbrev S1x256 : Shape := ⟨2, ![1, 256]⟩
abbrev S1024x1024 : Shape := ⟨2, ![1024, 1024]⟩
abbrev S1x128x128 : Shape := ⟨3, ![1, 128, 128]⟩

abbrev nBuf : Space → Nat
  | .hbm => 45
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x6160, .f32⟩
  | .hbm, ⟨3, _⟩ => ⟨S1x16x512, .f32⟩
  | .hbm, ⟨4, _⟩ => ⟨S1x512, .f32⟩
  | .hbm, ⟨5, _⟩ => ⟨S1x1024, .f32⟩
  | .hbm, ⟨6, _⟩ => ⟨S1x1024, .f32⟩
  | .hbm, ⟨7, _⟩ => ⟨S1x8x128x128, .f32⟩
  | .hbm, ⟨8, _⟩ => ⟨S1x8x128, .f32⟩
  | .hbm, ⟨9, _⟩ => ⟨S1x1024, .f32⟩
  | .hbm, ⟨10, _⟩ => ⟨S1x2048x1024, .f32⟩
  | .hbm, ⟨11, _⟩ => ⟨S1x1024, .f32⟩
  | .hbm, ⟨12, _⟩ => ⟨S1024, .f32⟩
  | .hbm, ⟨13, _⟩ => ⟨S1024x6160, .f32⟩
  | .hbm, ⟨14, _⟩ => ⟨S16x512, .f32⟩
  | .hbm, ⟨15, _⟩ => ⟨S512, .f32⟩
  | .hbm, ⟨16, _⟩ => ⟨S1024, .f32⟩
  | .hbm, ⟨17, _⟩ => ⟨S1024, .f32⟩
  | .hbm, ⟨18, _⟩ => ⟨S8x128x128, .f32⟩
  | .hbm, ⟨19, _⟩ => ⟨S8x128, .f32⟩
  | .hbm, ⟨20, _⟩ => ⟨S1024, .f32⟩
  | .hbm, ⟨21, _⟩ => ⟨S2048x1024, .f32⟩
  | .hbm, ⟨22, _⟩ => ⟨S1024, .f32⟩
  | .hbm, ⟨23, _⟩ => ⟨S1024x6144, .f32⟩
  | .hbm, ⟨24, _⟩ => ⟨S1024x6144, .bf16⟩
  | .hbm, ⟨25, _⟩ => ⟨S1024x16, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x128, .bf16⟩
  | .hbm, ⟨30, _⟩ => ⟨S_, .i32⟩
  | .hbm, ⟨31, _⟩ => ⟨S_, .f32⟩
  | .hbm, ⟨32, _⟩ => ⟨S128x512, .f32⟩
  | .hbm, ⟨33, _⟩ => ⟨S128x512, .bf16⟩
  | .hbm, ⟨34, _⟩ => ⟨S128x8, .f32⟩
  | .hbm, ⟨35, _⟩ => ⟨S128x8x128, .f32⟩
  | .hbm, ⟨36, _⟩ => ⟨S128x1024, .f32⟩
  | .hbm, ⟨37, _⟩ => ⟨S1x1024, .f32⟩
  | .hbm, ⟨38, _⟩ => ⟨S1x512, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S2048x1024, .bf16⟩
  | .hbm, ⟨43, _⟩ => ⟨S1x1024, .f32⟩
  | .hbm, ⟨44, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x6144, .bf16⟩
  | .local _ .vmem, ⟨4, _⟩ => ⟨S1024x128, .bf16⟩
  | .local _ .vmem, ⟨5, _⟩ => ⟨S128x512, .bf16⟩
  | .local _ .vmem, ⟨6, _⟩ => ⟨S1x512, .f32⟩
  | .local _ .vmem, ⟨7, _⟩ => ⟨S1x1024, .f32⟩
  | .local _ .vmem, ⟨8, _⟩ => ⟨S1x1024, .f32⟩
  | .local _ .vmem, ⟨9, _⟩ => ⟨S8x128x128, .f32⟩
  | .local _ .vmem, ⟨10, _⟩ => ⟨S128x1024, .f32⟩
  | .local _ .vmem, ⟨11, _⟩ => ⟨S1x1024, .f32⟩
  | .local _ .vmem, ⟨12, _⟩ => ⟨S2048x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x2048, .bf16⟩
  | .local _ .vmem, ⟨17, _⟩ => ⟨S4x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x2048x1024 : Shape := ⟨3, ![8, 2048, 1024]⟩
abbrev S1x1024 : Shape := ⟨2, ![1, 1024]⟩
abbrev S1x1024x6160 : Shape := ⟨3, ![1, 1024, 6160]⟩
abbrev S1x16x512 : Shape := ⟨3, ![1, 16, 512]⟩
abbrev S1x512 : Shape := ⟨2, ![1, 512]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1024 : Shape := ⟨1, ![1024]⟩
abbrev S1024x6160 : Shape := ⟨2, ![1024, 6160]⟩
abbrev S16x512 : Shape := ⟨2, ![16, 512]⟩
abbrev S512 : Shape := ⟨1, ![512]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6160 : Shape := ⟨3, ![8, 2048, 6160]⟩
abbrev S8x2048x512 : Shape := ⟨3, ![8, 2048, 512]⟩
abbrev S8x2048x16 : Shape := ⟨3, ![8, 2048, 16]⟩
abbrev S8x16x128x8x128 : Shape := ⟨5, ![8, 16, 128, 8, 128]⟩
abbrev S128x128 : Shape := ⟨2, ![128, 128]⟩
abbrev S1x128x128 : Shape := ⟨3, ![1, 128, 128]⟩
abbrev S8x8x16x128x128 : Shape := ⟨5, ![8, 8, 16, 128, 128]⟩
abbrev S128x8 : Shape := ⟨2, ![128, 8]⟩
abbrev S1x1x128x8x1 : Shape := ⟨5, ![1, 1, 128, 8, 1]⟩
abbrev S1x1x512 : Shape := ⟨3, ![1, 1, 512]⟩
abbrev S8x2048x4x128 : Shape := ⟨4, ![8, 2048, 4, 128]⟩
abbrev S8x2048x4x256 : Shape := ⟨4, ![8, 2048, 4, 256]⟩
abbrev S8x32x64x4x128 : Shape := ⟨5, ![8, 32, 64, 4, 128]⟩
abbrev S8x4x32x64x128 : Shape := ⟨5, ![8, 4, 32, 64, 128]⟩
abbrev S8x32x64x4x256 : Shape := ⟨5, ![8, 32, 64, 4, 256]⟩
abbrev S8x4x32x64x256 : Shape := ⟨5, ![8, 4, 32, 64, 256]⟩
abbrev S8x4x32x1x128 : Shape := ⟨5, ![8, 4, 32, 1, 128]⟩
abbrev S8x4x32x64x64 : Shape := ⟨5, ![8, 4, 32, 64, 64]⟩
abbrev S64x64 : Shape := ⟨2, ![64, 64]⟩
abbrev S8x4x32x128x256 : Shape := ⟨5, ![8, 4, 32, 128, 256]⟩
abbrev S8x4x32x128 : Shape := ⟨4, ![8, 4, 32, 128]⟩
abbrev S8x4x128x256 : Shape := ⟨4, ![8, 4, 128, 256]⟩
abbrev S8x4x1x128 : Shape := ⟨4, ![8, 4, 1, 128]⟩
abbrev S8x4x128 : Shape := ⟨3, ![8, 4, 128]⟩
abbrev S8x4x128x1 : Shape := ⟨4, ![8, 4, 128, 1]⟩
abbrev S8x4x1x128x256 : Shape := ⟨5, ![8, 4, 1, 128, 256]⟩
abbrev S8x4x16x128x256 : Shape := ⟨5, ![8, 4, 16, 128, 256]⟩
abbrev S4x256 : Shape := ⟨2, ![4, 256]⟩
abbrev S8x2048x4 : Shape := ⟨3, ![8, 2048, 4]⟩
abbrev S8x2048x4x1 : Shape := ⟨4, ![8, 2048, 4, 1]⟩
abbrev S1x1x4x256 : Shape := ⟨4, ![1, 1, 4, 256]⟩
abbrev S8x2048x2048 : Shape := ⟨3, ![8, 2048, 2048]⟩

abbrev nBuf : Space → Nat
  | .hbm => 550
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x6160, .f32⟩
  | 3 => ⟨S1x16x512, .f32⟩
  | 4 => ⟨S1x512, .f32⟩
  | 5 => ⟨S1x1024, .f32⟩
  | 6 => ⟨S1x1024, .f32⟩
  | 7 => ⟨S1x8x128x128, .f32⟩
  | 8 => ⟨S1x8x128, .f32⟩
  | 9 => ⟨S1x1024, .f32⟩
  | 10 => ⟨S1x2048x1024, .f32⟩
  | 11 => ⟨S1x1024, .f32⟩
  | 12 => ⟨S1024, .f32⟩
  | 13 => ⟨S1024x6160, .f32⟩
  | 14 => ⟨S16x512, .f32⟩
  | 15 => ⟨S512, .f32⟩
  | 16 => ⟨S1024, .f32⟩
  | 17 => ⟨S1024, .f32⟩
  | 18 => ⟨S8x128x128, .f32⟩
  | 19 => ⟨S8x128, .f32⟩
  | 20 => ⟨S1024, .f32⟩
  | 21 => ⟨S2048x1024, .f32⟩
  | 22 => ⟨S1024, .f32⟩
  | 23 => ⟨S8x2048x1024, .f32⟩
  | 24 => ⟨S_, .f32⟩
  | 25 => ⟨S8x2048, .f32⟩
  | 26 => ⟨S8x2048x1, .f32⟩
  | 27 => ⟨S_, .f32⟩
  | 28 => ⟨S8x2048x1, .f32⟩
  | 29 => ⟨S8x2048x1, .f32⟩
  | 30 => ⟨S_, .f32⟩
  | 31 => ⟨S8x2048x1, .f32⟩
  | 32 => ⟨S8x2048x1, .f32⟩
  | 33 => ⟨S8x2048x1, .f32⟩
  | 34 => ⟨S8x2048x1024, .f32⟩
  | 35 => ⟨S8x2048x1024, .f32⟩
  | 36 => ⟨S1x1x1024, .f32⟩
  | 37 => ⟨S8x2048x1024, .f32⟩
  | 38 => ⟨S8x2048x1024, .f32⟩
  | 39 => ⟨S8x2048x6160, .f32⟩
  | 40 => ⟨S8x2048x1024, .f32⟩
  | 41 => ⟨S8x2048x1024, .f32⟩
  | 42 => ⟨S8x2048x1024, .f32⟩
  | 43 => ⟨S8x2048x512, .f32⟩
  | 44 => ⟨S8x2048x512, .f32⟩
  | 45 => ⟨S8x2048x1024, .f32⟩
  | 46 => ⟨S8x2048x1024, .f32⟩
  | 47 => ⟨S8x2048x16, .f32⟩
  | 48 => ⟨S_, .f32⟩
  | 49 => ⟨S8x2048x1024, .f32⟩
  | 50 => ⟨S8x2048x1024, .f32⟩
  | 51 => ⟨S8x2048x1024, .f32⟩
  | 52 => ⟨S_, .f32⟩
  | 53 => ⟨S8x2048x1024, .f32⟩
  | 54 => ⟨S8x2048x1024, .f32⟩
  | 55 => ⟨S8x2048x1024, .f32⟩
  | 56 => ⟨S8x2048x1024, .f32⟩
  | 57 => ⟨S_, .f32⟩
  | 58 => ⟨S8x2048x1024, .f32⟩
  | 59 => ⟨S8x2048x1024, .f32⟩
  | 60 => ⟨S8x2048x1024, .f32⟩
  | 61 => ⟨S_, .f32⟩
  | 62 => ⟨S8x2048x1024, .f32⟩
  | 63 => ⟨S8x2048x1024, .f32⟩
  | 64 => ⟨S8x2048x1024, .f32⟩
  | 65 => ⟨S8x2048x1024, .f32⟩
  | 66 => ⟨S_, .f32⟩
  | 67 => ⟨S8x2048, .f32⟩
  | 68 => ⟨S8x2048x1, .f32⟩
  | 69 => ⟨S_, .f32⟩
  | 70 => ⟨S8x2048x1, .f32⟩
  | 71 => ⟨S8x2048x1, .f32⟩
  | 72 => ⟨S8x2048x1024, .f32⟩
  | 73 => ⟨S8x2048x1024, .f32⟩
  | 74 => ⟨S8x2048x1024, .f32⟩
  | 75 => ⟨S_, .f32⟩
  | 76 => ⟨S8x2048, .f32⟩
  | 77 => ⟨S8x2048x1, .f32⟩
  | 78 => ⟨S_, .f32⟩
  | 79 => ⟨S8x2048x1, .f32⟩
  | 80 => ⟨S8x2048x1, .f32⟩
  | 81 => ⟨S_, .f32⟩
  | 82 => ⟨S8x2048x1, .f32⟩
  | 83 => ⟨S8x2048x1, .f32⟩
  | 84 => ⟨S8x2048x1, .f32⟩
  | 85 => ⟨S8x2048x1024, .f32⟩
  | 86 => ⟨S8x2048x1024, .f32⟩
  | 87 => ⟨S1x1x1024, .f32⟩
  | 88 => ⟨S8x2048x1024, .f32⟩
  | 89 => ⟨S8x2048x1024, .f32⟩
  | 90 => ⟨S1x1x1024, .f32⟩
  | 91 => ⟨S8x2048x1024, .f32⟩
  | 92 => ⟨S8x2048x1024, .f32⟩
  | 93 => ⟨S8x16x128x8x128, .f32⟩
  | 94 => ⟨S_, .i1⟩
  | 95 => ⟨S128x128, .i1⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .i1⟩
  | 103 => ⟨S128x128, .i1⟩
  | 104 => ⟨S128x128, .i1⟩
  | 105 => ⟨S1x128x128, .i1⟩
  | 106 => ⟨S_, .f32⟩
  | 107 => ⟨S8x128x128, .f32⟩
  | 108 => ⟨S8x128x128, .i1⟩
  | 109 => ⟨S8x128x128, .f32⟩
  | 110 => ⟨S8x8x16x128x128, .f32⟩
  | 111 => ⟨S8x16x128x8x128, .f32⟩
  | 112 => ⟨S128x8, .f32⟩
  | 113 => ⟨S1x1x128x8x1, .f32⟩
  | 114 => ⟨S8x16x128x8x128, .f32⟩
  | 115 => ⟨S8x16x128x8x128, .f32⟩
  | 116 => ⟨S8x2048x1024, .f32⟩
  | 117 => ⟨S8x2048x1024, .f32⟩
  | 118 => ⟨S8x2048x1024, .f32⟩
  | 119 => ⟨S8x2048x1024, .f32⟩
  | 120 => ⟨S_, .f32⟩
  | 121 => ⟨S8x2048x1024, .f32⟩
  | 122 => ⟨S8x2048x1024, .f32⟩
  | 123 => ⟨S_, .f32⟩
  | 124 => ⟨S8x2048x1024, .f32⟩
  | 125 => ⟨S8x2048x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S8x2048x512, .f32⟩
  | 1 => ⟨S1x1x512, .f32⟩
  | 2 => ⟨S8x2048x512, .f32⟩
  | 3 => ⟨S8x2048x512, .f32⟩
  | 4 => ⟨S8x2048x512, .f32⟩
  | 5 => ⟨S_, .f32⟩
  | 6 => ⟨S8x2048x512, .f32⟩
  | 7 => ⟨S8x2048x512, .f32⟩
  | 8 => ⟨S8x2048x512, .f32⟩
  | 9 => ⟨S8x2048x512, .f32⟩
  | 10 => ⟨S8x2048x512, .i1⟩
  | 11 => ⟨S8x2048x512, .f32⟩
  | 12 => ⟨S8x2048x512, .f32⟩
  | 13 => ⟨S8x2048x512, .f32⟩
  | 14 => ⟨S8x2048x512, .f32⟩
  | 15 => ⟨S8x2048x512, .f32⟩
  | 16 => ⟨S8x2048x512, .f32⟩
  | 17 => ⟨S8x2048x512, .f32⟩
  | 18 => ⟨S8x2048x512, .f32⟩
  | 19 => ⟨S8x2048x512, .f32⟩
  | 20 => ⟨S_, .f32⟩
  | 21 => ⟨S8x2048x512, .f32⟩
  | 22 => ⟨S8x2048x512, .f32⟩
  | 23 => ⟨S8x2048x4x128, .f32⟩
  | 24 => ⟨S8x2048x4x128, .f32⟩
  | 25 => ⟨S8x2048x4x256, .f32⟩
  | 26 => ⟨S8x2048x4x128, .f32⟩
  | 27 => ⟨S8x32x64x4x128, .f32⟩
  | 28 => ⟨S8x4x32x64x128, .f32⟩
  | 29 => ⟨S_, .f32⟩
  | 30 => ⟨S8x4x32x64x128, .f32⟩
  | 31 => ⟨S8x4x32x64x128, .f32⟩
  | 32 => ⟨S8x32x64x4x128, .f32⟩
  | 33 => ⟨S8x4x32x64x128, .f32⟩
  | 34 => ⟨S8x32x64x4x256, .f32⟩
  | 35 => ⟨S8x4x32x64x256, .f32⟩
  | 36 => ⟨S8x32x64x4x128, .f32⟩
  | 37 => ⟨S8x4x32x64x128, .f32⟩
  | 38 => ⟨S_, .f32⟩
  | 39 => ⟨S_, .f32⟩
  | 40 => ⟨S8x4x32x64x128, .f32⟩
  | 41 => ⟨S8x4x32x1x128, .f32⟩
  | 42 => ⟨S8x4x32x1x128, .f32⟩
  | 43 => ⟨S8x4x32x64x128, .f32⟩
  | 44 => ⟨S8x4x32x64x128, .f32⟩
  | 45 => ⟨S8x4x32x64x128, .f32⟩
  | 46 => ⟨S8x4x32x64x128, .f32⟩
  | 47 => ⟨S8x4x32x64x128, .f32⟩
  | 48 => ⟨S8x4x32x64x128, .f32⟩
  | 49 => ⟨S8x4x32x64x128, .f32⟩
  | 50 => ⟨S8x4x32x64x128, .f32⟩
  | 51 => ⟨S8x4x32x64x64, .f32⟩
  | 52 => ⟨S_, .i1⟩
  | 53 => ⟨S64x64, .i1⟩
  | 54 => ⟨S64x64, .i32⟩
  | 55 => ⟨S_, .i32⟩
  | 56 => ⟨S64x64, .i32⟩
  | 57 => ⟨S64x64, .i32⟩
  | 58 => ⟨S64x64, .i32⟩
  | 59 => ⟨S64x64, .i1⟩
  | 60 => ⟨S_, .i1⟩
  | 61 => ⟨S64x64, .i1⟩
  | 62 => ⟨S64x64, .i1⟩
  | 63 => ⟨S_, .f32⟩
  | 64 => ⟨S_, .f32⟩
  | 65 => ⟨S8x4x32x64x64, .i1⟩
  | 66 => ⟨S8x4x32x64x64, .f32⟩
  | 67 => ⟨S8x4x32x64x64, .f32⟩
  | 68 => ⟨S8x4x32x64x256, .f32⟩
  | 69 => ⟨S8x4x32x64x128, .f32⟩
  | 70 => ⟨S8x4x32x64x128, .f32⟩
  | 71 => ⟨S8x4x32x64x128, .f32⟩
  | 72 => ⟨S8x4x32x64x128, .f32⟩
  | 73 => ⟨S8x4x32x128x256, .f32⟩
  | 74 => ⟨S8x4x32x128, .f32⟩
  | 75 => ⟨S8x4x32x128, .f32⟩
  | 76 => ⟨S_, .f32⟩
  | 77 => ⟨S8x4x128x256, .f32⟩
  | 78 => ⟨S8x4x1x128, .f32⟩
  | 79 => ⟨S8x4x128, .f32⟩
  | 80 => ⟨S8x4x128x1, .f32⟩
  | 81 => ⟨S8x4x128x256, .f32⟩
  | 82 => ⟨S8x4x128x256, .f32⟩
  | 83 => ⟨S8x4x1x128x256, .f32⟩
  | 84 => ⟨S8x4x128x256, .f32⟩
  | 85 => ⟨S8x4x128x256, .f32⟩
  | 86 => ⟨S8x4x1x128, .f32⟩
  | 87 => ⟨S8x4x128, .f32⟩
  | 88 => ⟨S8x4x128x1, .f32⟩
  | 89 => ⟨S8x4x128x256, .f32⟩
  | 90 => ⟨S8x4x128x256, .f32⟩
  | 91 => ⟨S8x4x1x128x256, .f32⟩
  | 92 => ⟨S8x4x128x256, .f32⟩
  | 93 => ⟨S8x4x128x256, .f32⟩
  | 94 => ⟨S8x4x1x128, .f32⟩
  | 95 => ⟨S8x4x128, .f32⟩
  | 96 => ⟨S8x4x128x1, .f32⟩
  | 97 => ⟨S8x4x128x256, .f32⟩
  | 98 => ⟨S8x4x128x256, .f32⟩
  | 99 => ⟨S8x4x1x128x256, .f32⟩
  | 100 => ⟨S8x4x128x256, .f32⟩
  | 101 => ⟨S8x4x128x256, .f32⟩
  | 102 => ⟨S8x4x1x128, .f32⟩
  | 103 => ⟨S8x4x128, .f32⟩
  | 104 => ⟨S8x4x128x1, .f32⟩
  | 105 => ⟨S8x4x128x256, .f32⟩
  | 106 => ⟨S8x4x128x256, .f32⟩
  | 107 => ⟨S8x4x1x128x256, .f32⟩
  | 108 => ⟨S8x4x128x256, .f32⟩
  | 109 => ⟨S8x4x128x256, .f32⟩
  | 110 => ⟨S8x4x1x128, .f32⟩
  | 111 => ⟨S8x4x128, .f32⟩
  | 112 => ⟨S8x4x128x1, .f32⟩
  | 113 => ⟨S8x4x128x256, .f32⟩
  | 114 => ⟨S8x4x128x256, .f32⟩
  | 115 => ⟨S8x4x1x128x256, .f32⟩
  | 116 => ⟨S8x4x128x256, .f32⟩
  | 117 => ⟨S8x4x128x256, .f32⟩
  | 118 => ⟨S8x4x1x128, .f32⟩
  | 119 => ⟨S8x4x128, .f32⟩
  | 120 => ⟨S8x4x128x1, .f32⟩
  | 121 => ⟨S8x4x128x256, .f32⟩
  | 122 => ⟨S8x4x128x256, .f32⟩
  | 123 => ⟨S8x4x1x128x256, .f32⟩
  | 124 => ⟨S8x4x128x256, .f32⟩
  | 125 => ⟨S8x4x128x256, .f32⟩
  | 126 => ⟨S8x4x1x128, .f32⟩
  | 127 => ⟨S8x4x128, .f32⟩
  | _ => ⟨S8x2048x1024, .f32⟩

abbrev hbmTy0_2 (i : Nat) : BufTy := match i % 128 with
  | 0 => ⟨S8x4x128x1, .f32⟩
  | 1 => ⟨S8x4x128x256, .f32⟩
  | 2 => ⟨S8x4x128x256, .f32⟩
  | 3 => ⟨S8x4x1x128x256, .f32⟩
  | 4 => ⟨S8x4x128x256, .f32⟩
  | 5 => ⟨S8x4x128x256, .f32⟩
  | 6 => ⟨S8x4x1x128, .f32⟩
  | 7 => ⟨S8x4x128, .f32⟩
  | 8 => ⟨S8x4x128x1, .f32⟩
  | 9 => ⟨S8x4x128x256, .f32⟩
  | 10 => ⟨S8x4x128x256, .f32⟩
  | 11 => ⟨S8x4x1x128x256, .f32⟩
  | 12 => ⟨S8x4x128x256, .f32⟩
  | 13 => ⟨S8x4x128x256, .f32⟩
  | 14 => ⟨S8x4x1x128, .f32⟩
  | 15 => ⟨S8x4x128, .f32⟩
  | 16 => ⟨S8x4x128x1, .f32⟩
  | 17 => ⟨S8x4x128x256, .f32⟩
  | 18 => ⟨S8x4x128x256, .f32⟩
  | 19 => ⟨S8x4x1x128x256, .f32⟩
  | 20 => ⟨S8x4x128x256, .f32⟩
  | 21 => ⟨S8x4x128x256, .f32⟩
  | 22 => ⟨S8x4x1x128, .f32⟩
  | 23 => ⟨S8x4x128, .f32⟩
  | 24 => ⟨S8x4x128x1, .f32⟩
  | 25 => ⟨S8x4x128x256, .f32⟩
  | 26 => ⟨S8x4x128x256, .f32⟩
  | 27 => ⟨S8x4x1x128x256, .f32⟩
  | 28 => ⟨S8x4x128x256, .f32⟩
  | 29 => ⟨S8x4x128x256, .f32⟩
  | 30 => ⟨S8x4x1x128, .f32⟩
  | 31 => ⟨S8x4x128, .f32⟩
  | 32 => ⟨S8x4x128x1, .f32⟩
  | 33 => ⟨S8x4x128x256, .f32⟩
  | 34 => ⟨S8x4x128x256, .f32⟩
  | 35 => ⟨S8x4x1x128x256, .f32⟩
  | 36 => ⟨S8x4x128x256, .f32⟩
  | 37 => ⟨S8x4x128x256, .f32⟩
  | 38 => ⟨S8x4x1x128, .f32⟩
  | 39 => ⟨S8x4x128, .f32⟩
  | 40 => ⟨S8x4x128x1, .f32⟩
  | 41 => ⟨S8x4x128x256, .f32⟩
  | 42 => ⟨S8x4x128x256, .f32⟩
  | 43 => ⟨S8x4x1x128x256, .f32⟩
  | 44 => ⟨S8x4x128x256, .f32⟩
  | 45 => ⟨S8x4x128x256, .f32⟩
  | 46 => ⟨S8x4x1x128, .f32⟩
  | 47 => ⟨S8x4x128, .f32⟩
  | 48 => ⟨S8x4x128x1, .f32⟩
  | 49 => ⟨S8x4x128x256, .f32⟩
  | 50 => ⟨S8x4x128x256, .f32⟩
  | 51 => ⟨S8x4x1x128x256, .f32⟩
  | 52 => ⟨S8x4x128x256, .f32⟩
  | 53 => ⟨S8x4x128x256, .f32⟩
  | 54 => ⟨S8x4x1x128, .f32⟩
  | 55 => ⟨S8x4x128, .f32⟩
  | 56 => ⟨S8x4x128x1, .f32⟩
  | 57 => ⟨S8x4x128x256, .f32⟩
  | 58 => ⟨S8x4x128x256, .f32⟩
  | 59 => ⟨S8x4x1x128x256, .f32⟩
  | 60 => ⟨S8x4x128x256, .f32⟩
  | 61 => ⟨S8x4x128x256, .f32⟩
  | 62 => ⟨S8x4x1x128, .f32⟩
  | 63 => ⟨S8x4x128, .f32⟩
  | 64 => ⟨S8x4x128x1, .f32⟩
  | 65 => ⟨S8x4x128x256, .f32⟩
  | 66 => ⟨S8x4x128x256, .f32⟩
  | 67 => ⟨S8x4x1x128x256, .f32⟩
  | 68 => ⟨S8x4x128x256, .f32⟩
  | 69 => ⟨S8x4x128x256, .f32⟩
  | 70 => ⟨S8x4x1x128, .f32⟩
  | 71 => ⟨S8x4x128, .f32⟩
  | 72 => ⟨S8x4x128x1, .f32⟩
  | 73 => ⟨S8x4x128x256, .f32⟩
  | 74 => ⟨S8x4x128x256, .f32⟩
  | 75 => ⟨S8x4x1x128x256, .f32⟩
  | 76 => ⟨S8x4x128x256, .f32⟩
  | 77 => ⟨S8x4x128x256, .f32⟩
  | 78 => ⟨S8x4x1x128, .f32⟩
  | 79 => ⟨S8x4x128, .f32⟩
  | 80 => ⟨S8x4x128x1, .f32⟩
  | 81 => ⟨S8x4x128x256, .f32⟩
  | 82 => ⟨S8x4x128x256, .f32⟩
  | 83 => ⟨S8x4x1x128x256, .f32⟩
  | 84 => ⟨S8x4x128x256, .f32⟩
  | 85 => ⟨S8x4x128x256, .f32⟩
  | 86 => ⟨S8x4x1x128, .f32⟩
  | 87 => ⟨S8x4x128, .f32⟩
  | 88 => ⟨S8x4x128x1, .f32⟩
  | 89 => ⟨S8x4x128x256, .f32⟩
  | 90 => ⟨S8x4x128x256, .f32⟩
  | 91 => ⟨S8x4x1x128x256, .f32⟩
  | 92 => ⟨S8x4x128x256, .f32⟩
  | 93 => ⟨S8x4x128x256, .f32⟩
  | 94 => ⟨S8x4x1x128, .f32⟩
  | 95 => ⟨S8x4x128, .f32⟩
  | 96 => ⟨S8x4x128x1, .f32⟩
  | 97 => ⟨S8x4x128x256, .f32⟩
  | 98 => ⟨S8x4x128x256, .f32⟩
  | 99 => ⟨S8x4x1x128x256, .f32⟩
  | 100 => ⟨S8x4x128x256, .f32⟩
  | 101 => ⟨S8x4x128x256, .f32⟩
  | 102 => ⟨S8x4x1x128, .f32⟩
  | 103 => ⟨S8x4x128, .f32⟩
  | 104 => ⟨S8x4x128x1, .f32⟩
  | 105 => ⟨S8x4x128x256, .f32⟩
  | 106 => ⟨S8x4x128x256, .f32⟩
  | 107 => ⟨S8x4x1x128x256, .f32⟩
  | 108 => ⟨S8x4x128x256, .f32⟩
  | 109 => ⟨S8x4x128x256, .f32⟩
  | 110 => ⟨S8x4x1x128, .f32⟩
  | 111 => ⟨S8x4x128, .f32⟩
  | 112 => ⟨S8x4x128x1, .f32⟩
  | 113 => ⟨S8x4x128x256, .f32⟩
  | 114 => ⟨S8x4x128x256, .f32⟩
  | 115 => ⟨S8x4x1x128x256, .f32⟩
  | 116 => ⟨S8x4x128x256, .f32⟩
  | 117 => ⟨S8x4x128x256, .f32⟩
  | 118 => ⟨S8x4x1x128, .f32⟩
  | 119 => ⟨S8x4x128, .f32⟩
  | 120 => ⟨S8x4x128x1, .f32⟩
  | 121 => ⟨S8x4x128x256, .f32⟩
  | 122 => ⟨S8x4x128x256, .f32⟩
  | 123 => ⟨S8x4x1x128x256, .f32⟩
  | 124 => ⟨S8x4x128x256, .f32⟩
  | 125 => ⟨S8x4x128x256, .f32⟩
  | 126 => ⟨S8x4x1x128, .f32⟩
  | 127 => ⟨S8x4x128, .f32⟩
  | _ => ⟨S8x2048x1024, .f32⟩

abbrev hbmTy0_3 (i : Nat) : BufTy := match i % 128 with
  | 0 => ⟨S8x4x128x1, .f32⟩
  | 1 => ⟨S8x4x128x256, .f32⟩
  | 2 => ⟨S8x4x128x256, .f32⟩
  | 3 => ⟨S8x4x1x128x256, .f32⟩
  | 4 => ⟨S8x4x128x256, .f32⟩
  | 5 => ⟨S8x4x128x256, .f32⟩
  | 6 => ⟨S8x4x1x128, .f32⟩
  | 7 => ⟨S8x4x128, .f32⟩
  | 8 => ⟨S8x4x128x1, .f32⟩
  | 9 => ⟨S8x4x128x256, .f32⟩
  | 10 => ⟨S8x4x128x256, .f32⟩
  | 11 => ⟨S8x4x1x128x256, .f32⟩
  | 12 => ⟨S8x4x128x256, .f32⟩
  | 13 => ⟨S8x4x128x256, .f32⟩
  | 14 => ⟨S8x4x1x128, .f32⟩
  | 15 => ⟨S8x4x128, .f32⟩
  | 16 => ⟨S8x4x128x1, .f32⟩
  | 17 => ⟨S8x4x128x256, .f32⟩
  | 18 => ⟨S8x4x128x256, .f32⟩
  | 19 => ⟨S8x4x1x128x256, .f32⟩
  | 20 => ⟨S8x4x128x256, .f32⟩
  | 21 => ⟨S8x4x128x256, .f32⟩
  | 22 => ⟨S8x4x1x128, .f32⟩
  | 23 => ⟨S8x4x128, .f32⟩
  | 24 => ⟨S8x4x128x1, .f32⟩
  | 25 => ⟨S8x4x128x256, .f32⟩
  | 26 => ⟨S8x4x128x256, .f32⟩
  | 27 => ⟨S8x4x1x128x256, .f32⟩
  | 28 => ⟨S8x4x128x256, .f32⟩
  | 29 => ⟨S8x4x128x256, .f32⟩
  | 30 => ⟨S8x4x1x128, .f32⟩
  | 31 => ⟨S8x4x128, .f32⟩
  | 32 => ⟨S8x4x128x1, .f32⟩
  | 33 => ⟨S8x4x128x256, .f32⟩
  | 34 => ⟨S8x4x128x256, .f32⟩
  | 35 => ⟨S8x4x1x128x256, .f32⟩
  | 36 => ⟨S8x4x128x256, .f32⟩
  | 37 => ⟨S8x4x128x256, .f32⟩
  | 38 => ⟨S8x4x1x128, .f32⟩
  | 39 => ⟨S8x4x128, .f32⟩
  | 40 => ⟨S8x4x128x1, .f32⟩
  | 41 => ⟨S8x4x128x256, .f32⟩
  | 42 => ⟨S8x4x128x256, .f32⟩
  | 43 => ⟨S8x4x1x128x256, .f32⟩
  | 44 => ⟨S8x4x128x256, .f32⟩
  | 45 => ⟨S8x4x128x256, .f32⟩
  | 46 => ⟨S8x4x1x128, .f32⟩
  | 47 => ⟨S8x4x128, .f32⟩
  | 48 => ⟨S8x4x128x1, .f32⟩
  | 49 => ⟨S8x4x128x256, .f32⟩
  | 50 => ⟨S8x4x128x256, .f32⟩
  | 51 => ⟨S8x4x1x128x256, .f32⟩
  | 52 => ⟨S8x4x128x256, .f32⟩
  | 53 => ⟨S8x4x128x256, .f32⟩
  | 54 => ⟨S8x4x1x128, .f32⟩
  | 55 => ⟨S8x4x128, .f32⟩
  | 56 => ⟨S8x4x128x1, .f32⟩
  | 57 => ⟨S8x4x128x256, .f32⟩
  | 58 => ⟨S8x4x128x256, .f32⟩
  | 59 => ⟨S8x4x1x128x256, .f32⟩
  | 60 => ⟨S8x4x128x256, .f32⟩
  | 61 => ⟨S8x4x128x256, .f32⟩
  | 62 => ⟨S8x4x1x128, .f32⟩
  | 63 => ⟨S8x4x128, .f32⟩
  | 64 => ⟨S8x4x128x1, .f32⟩
  | 65 => ⟨S8x4x128x256, .f32⟩
  | 66 => ⟨S8x4x128x256, .f32⟩
  | 67 => ⟨S8x4x1x128x256, .f32⟩
  | 68 => ⟨S8x4x128x256, .f32⟩
  | 69 => ⟨S8x4x128x256, .f32⟩
  | 70 => ⟨S8x4x1x128, .f32⟩
  | 71 => ⟨S8x4x128, .f32⟩
  | 72 => ⟨S8x4x128x1, .f32⟩
  | 73 => ⟨S8x4x128x256, .f32⟩
  | 74 => ⟨S8x4x128x256, .f32⟩
  | 75 => ⟨S8x4x1x128x256, .f32⟩
  | 76 => ⟨S8x4x128x256, .f32⟩
  | 77 => ⟨S8x4x128x256, .f32⟩
  | 78 => ⟨S8x4x1x128x256, .f32⟩
  | 79 => ⟨S8x4x1x128x256, .f32⟩
  | 80 => ⟨S8x4x1x128x256, .f32⟩
  | 81 => ⟨S8x4x1x128x256, .f32⟩
  | 82 => ⟨S8x4x1x128x256, .f32⟩
  | 83 => ⟨S8x4x1x128x256, .f32⟩
  | 84 => ⟨S8x4x1x128x256, .f32⟩
  | 85 => ⟨S8x4x1x128x256, .f32⟩
  | 86 => ⟨S8x4x1x128x256, .f32⟩
  | 87 => ⟨S8x4x1x128x256, .f32⟩
  | 88 => ⟨S8x4x1x128x256, .f32⟩
  | 89 => ⟨S8x4x1x128x256, .f32⟩
  | 90 => ⟨S8x4x1x128x256, .f32⟩
  | 91 => ⟨S8x4x1x128x256, .f32⟩
  | 92 => ⟨S8x4x1x128x256, .f32⟩
  | 93 => ⟨S8x4x1x128x256, .f32⟩
  | 94 => ⟨S8x4x1x128x256, .f32⟩
  | 95 => ⟨S8x4x1x128x256, .f32⟩
  | 96 => ⟨S8x4x1x128x256, .f32⟩
  | 97 => ⟨S8x4x1x128x256, .f32⟩
  | 98 => ⟨S8x4x1x128x256, .f32⟩
  | 99 => ⟨S8x4x1x128x256, .f32⟩
  | 100 => ⟨S8x4x1x128x256, .f32⟩
  | 101 => ⟨S8x4x1x128x256, .f32⟩
  | 102 => ⟨S8x4x1x128x256, .f32⟩
  | 103 => ⟨S8x4x1x128x256, .f32⟩
  | 104 => ⟨S8x4x1x128x256, .f32⟩
  | 105 => ⟨S8x4x1x128x256, .f32⟩
  | 106 => ⟨S8x4x1x128x256, .f32⟩
  | 107 => ⟨S8x4x1x128x256, .f32⟩
  | 108 => ⟨S8x4x1x128x256, .f32⟩
  | 109 => ⟨S8x4x1x128x256, .f32⟩
  | 110 => ⟨S8x4x16x128x256, .f32⟩
  | 111 => ⟨S8x4x16x128x256, .f32⟩
  | 112 => ⟨S8x4x32x128x256, .f32⟩
  | 113 => ⟨S8x4x32x64x128, .f32⟩
  | 114 => ⟨S8x4x32x64x128, .f32⟩
  | 115 => ⟨S8x4x32x64x256, .f32⟩
  | 116 => ⟨S8x4x32x64x256, .f32⟩
  | 117 => ⟨S8x32x64x4x256, .f32⟩
  | 118 => ⟨S8x2048x4x256, .f32⟩
  | 119 => ⟨S4x256, .f32⟩
  | 120 => ⟨S8x2048x4x256, .f32⟩
  | 121 => ⟨S_, .f32⟩
  | 122 => ⟨S8x2048x4, .f32⟩
  | 123 => ⟨S8x2048x4x1, .f32⟩
  | 124 => ⟨S_, .f32⟩
  | 125 => ⟨S8x2048x4x1, .f32⟩
  | 126 => ⟨S8x2048x4x1, .f32⟩
  | 127 => ⟨S_, .f32⟩
  | _ => ⟨S8x2048x1024, .f32⟩

abbrev hbmTy0_4 (i : Nat) : BufTy := match i % 128 with
  | 0 => ⟨S8x2048x4x1, .f32⟩
  | 1 => ⟨S8x2048x4x1, .f32⟩
  | 2 => ⟨S8x2048x4x1, .f32⟩
  | 3 => ⟨S8x2048x4x256, .f32⟩
  | 4 => ⟨S8x2048x4x256, .f32⟩
  | 5 => ⟨S1x1x4x256, .f32⟩
  | 6 => ⟨S8x2048x4x256, .f32⟩
  | 7 => ⟨S8x2048x4x256, .f32⟩
  | 8 => ⟨S8x2048x1024, .f32⟩
  | 9 => ⟨S8x2048x1024, .f32⟩
  | 10 => ⟨S8x2048x1024, .f32⟩
  | 11 => ⟨S_, .f32⟩
  | 12 => ⟨S8x2048x1024, .f32⟩
  | 13 => ⟨S8x2048x1024, .f32⟩
  | 14 => ⟨S_, .f32⟩
  | 15 => ⟨S8x2048x1024, .f32⟩
  | 16 => ⟨S8x2048x1024, .f32⟩
  | 17 => ⟨S8x2048x1024, .f32⟩
  | 18 => ⟨S8x2048x1024, .f32⟩
  | 19 => ⟨S8x2048x2048, .f32⟩
  | 20 => ⟨S8x2048x1024, .f32⟩
  | 21 => ⟨S8x2048x1024, .f32⟩
  | 22 => ⟨S_, .f32⟩
  | 23 => ⟨S8x2048, .f32⟩
  | 24 => ⟨S8x2048x1, .f32⟩
  | 25 => ⟨S_, .f32⟩
  | 26 => ⟨S8x2048x1, .f32⟩
  | 27 => ⟨S8x2048x1, .f32⟩
  | 28 => ⟨S_, .f32⟩
  | 29 => ⟨S8x2048x1, .f32⟩
  | 30 => ⟨S8x2048x1, .f32⟩
  | 31 => ⟨S8x2048x1, .f32⟩
  | 32 => ⟨S8x2048x1024, .f32⟩
  | 33 => ⟨S8x2048x1024, .f32⟩
  | 34 => ⟨S1x1x1024, .f32⟩
  | 35 => ⟨S8x2048x1024, .f32⟩
  | 36 => ⟨S8x2048x1024, .f32⟩
  | 37 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c : Ref sig .tc := ⟨.hbm, 94, rfl⟩
abbrev main_v70 : Ref sig .tc := ⟨.hbm, 95, rfl⟩
abbrev main_call0_v0 : Ref sig .tc := ⟨.hbm, 96, rfl⟩
abbrev main_call0_c : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_c_0 : Ref sig .tc := ⟨.hbm, 102, rfl⟩
abbrev main_call0_v5 : Ref sig .tc := ⟨.hbm, 103, rfl⟩
abbrev main_v71 : Ref sig .tc := ⟨.hbm, 104, rfl⟩
abbrev main_v72 : Ref sig .tc := ⟨.hbm, 105, rfl⟩
abbrev main_cst_11 : Ref sig .tc := ⟨.hbm, 106, rfl⟩
abbrev main_v73 : Ref sig .tc := ⟨.hbm, 107, rfl⟩
abbrev main_call1_v0 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call2_v0 : Ref sig .tc := ⟨.hbm, 118, rfl⟩
abbrev main_call2_v1 : Ref sig .tc := ⟨.hbm, 119, rfl⟩
abbrev main_call2_cst : Ref sig .tc := ⟨.hbm, 120, rfl⟩
abbrev main_call2_v2 : Ref sig .tc := ⟨.hbm, 121, rfl⟩
abbrev main_call2_v3 : Ref sig .tc := ⟨.hbm, 122, rfl⟩
abbrev main_call2_cst_0 : Ref sig .tc := ⟨.hbm, 123, rfl⟩
abbrev main_call2_v4 : Ref sig .tc := ⟨.hbm, 124, rfl⟩
abbrev main_call2_v5 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_call3_v0 : Ref sig .tc := ⟨.hbm, 132, rfl⟩
abbrev main_call3_call0_cst : Ref sig .tc := ⟨.hbm, 133, rfl⟩
abbrev main_call3_call0_v0 : Ref sig .tc := ⟨.hbm, 134, rfl⟩
abbrev main_call3_call0_v1 : Ref sig .tc := ⟨.hbm, 135, rfl⟩
abbrev main_call3_call0_v2 : Ref sig .tc := ⟨.hbm, 136, rfl⟩
abbrev main_call3_call0_v3 : Ref sig .tc := ⟨.hbm, 137, rfl⟩
abbrev main_call3_call0_v4 : Ref sig .tc := ⟨.hbm, 138, rfl⟩
abbrev main_call3_call0_v5 : Ref sig .tc := ⟨.hbm, 139, rfl⟩
abbrev main_call3_call0_v6 : Ref sig .tc := ⟨.hbm, 140, rfl⟩
abbrev main_call3_call0_v7 : Ref sig .tc := ⟨.hbm, 141, rfl⟩
abbrev main_call3_call0_v8 : Ref sig .tc := ⟨.hbm, 142, rfl⟩
abbrev main_call3_call0_v9 : Ref sig .tc := ⟨.hbm, 143, rfl⟩
abbrev main_call3_call0_v10 : Ref sig .tc := ⟨.hbm, 144, rfl⟩
abbrev main_call3_call0_v11 : Ref sig .tc := ⟨.hbm, 145, rfl⟩
abbrev main_call3_v1 : Ref sig .tc := ⟨.hbm, 146, rfl⟩
abbrev main_v89 : Ref sig .tc := ⟨.hbm, 147, rfl⟩
abbrev main_cst_12 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_13 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_call4_call0_cst : Ref sig .tc := ⟨.hbm, 166, rfl⟩
abbrev main_call4_call0_v0 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_c_14 : Ref sig .tc := ⟨.hbm, 180, rfl⟩
abbrev main_v118 : Ref sig .tc := ⟨.hbm, 181, rfl⟩
abbrev main_call5_v0 : Ref sig .tc := ⟨.hbm, 182, rfl⟩
abbrev main_call5_c : Ref sig .tc := ⟨.hbm, 183, rfl⟩
abbrev main_call5_v1 : Ref sig .tc := ⟨.hbm, 184, rfl⟩
abbrev main_call5_v2 : Ref sig .tc := ⟨.hbm, 185, rfl⟩
abbrev main_call5_v3 : Ref sig .tc := ⟨.hbm, 186, rfl⟩
abbrev main_call5_v4 : Ref sig .tc := ⟨.hbm, 187, rfl⟩
abbrev main_call5_c_0 : Ref sig .tc := ⟨.hbm, 188, rfl⟩
abbrev main_call5_v5 : Ref sig .tc := ⟨.hbm, 189, rfl⟩
abbrev main_v119 : Ref sig .tc := ⟨.hbm, 190, rfl⟩
abbrev main_cst_15 : Ref sig .tc := ⟨.hbm, 191, rfl⟩
abbrev main_call6_v0 : Ref sig .tc := ⟨.hbm, 192, rfl⟩
abbrev main_call6_v1 : Ref sig .tc := ⟨.hbm, 193, rfl⟩
abbrev main_call6_v2 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_cst_16 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_v307 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_v311 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_v315 : Ref sig .tc := ⟨.hbm, 391, rfl⟩
abbrev main_v316 : Ref sig .tc := ⟨.hbm, 392, rfl⟩
abbrev main_v317 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_v322 : Ref sig .tc := ⟨.hbm, 398, rfl⟩
abbrev main_v323 : Ref sig .tc := ⟨.hbm, 399, rfl⟩
abbrev main_v324 : Ref sig .tc := ⟨.hbm, 400, rfl⟩
abbrev main_v325 : Ref sig .tc := ⟨.hbm, 401, rfl⟩
abbrev main_v326 : Ref sig .tc := ⟨.hbm, 402, rfl⟩
abbrev main_v327 : Ref sig .tc := ⟨.hbm, 403, rfl⟩
abbrev main_v328 : Ref sig .tc := ⟨.hbm, 404, rfl⟩
abbrev main_v329 : Ref sig .tc := ⟨.hbm, 405, rfl⟩
abbrev main_v330 : Ref sig .tc := ⟨.hbm, 406, rfl⟩
abbrev main_v331 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_v339 : Ref sig .tc := ⟨.hbm, 415, rfl⟩
abbrev main_v340 : Ref sig .tc := ⟨.hbm, 416, rfl⟩
abbrev main_v341 : Ref sig .tc := ⟨.hbm, 417, rfl⟩
abbrev main_v342 : Ref sig .tc := ⟨.hbm, 418, rfl⟩
abbrev main_v343 : Ref sig .tc := ⟨.hbm, 419, rfl⟩
abbrev main_v344 : Ref sig .tc := ⟨.hbm, 420, rfl⟩
abbrev main_v345 : Ref sig .tc := ⟨.hbm, 421, rfl⟩
abbrev main_v346 : Ref sig .tc := ⟨.hbm, 422, rfl⟩
abbrev main_v347 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_v354 : Ref sig .tc := ⟨.hbm, 430, rfl⟩
abbrev main_v355 : Ref sig .tc := ⟨.hbm, 431, rfl⟩
abbrev main_v356 : Ref sig .tc := ⟨.hbm, 432, rfl⟩
abbrev main_v357 : Ref sig .tc := ⟨.hbm, 433, rfl⟩
abbrev main_v358 : Ref sig .tc := ⟨.hbm, 434, rfl⟩
abbrev main_v359 : Ref sig .tc := ⟨.hbm, 435, rfl⟩
abbrev main_v360 : Ref sig .tc := ⟨.hbm, 436, rfl⟩
abbrev main_v361 : Ref sig .tc := ⟨.hbm, 437, rfl⟩
abbrev main_v362 : Ref sig .tc := ⟨.hbm, 438, rfl⟩
abbrev main_v363 : Ref sig .tc := ⟨.hbm, 439, rfl⟩
abbrev main_v364 : Ref sig .tc := ⟨.hbm, 440, rfl⟩
abbrev main_v365 : Ref sig .tc := ⟨.hbm, 441, rfl⟩
abbrev main_v366 : Ref sig .tc := ⟨.hbm, 442, rfl⟩
abbrev main_v367 : Ref sig .tc := ⟨.hbm, 443, rfl⟩
abbrev main_v368 : Ref sig .tc := ⟨.hbm, 444, rfl⟩
abbrev main_v369 : Ref sig .tc := ⟨.hbm, 445, rfl⟩
abbrev main_v370 : Ref sig .tc := ⟨.hbm, 446, rfl⟩
abbrev main_v371 : Ref sig .tc := ⟨.hbm, 447, rfl⟩
abbrev main_v372 : Ref sig .tc := ⟨.hbm, 448, rfl⟩
abbrev main_v373 : Ref sig .tc := ⟨.hbm, 449, rfl⟩
abbrev main_v374 : Ref sig .tc := ⟨.hbm, 450, rfl⟩
abbrev main_v375 : Ref sig .tc := ⟨.hbm, 451, rfl⟩
abbrev main_v376 : Ref sig .tc := ⟨.hbm, 452, rfl⟩
abbrev main_v377 : Ref sig .tc := ⟨.hbm, 453, rfl⟩
abbrev main_v378 : Ref sig .tc := ⟨.hbm, 454, rfl⟩
abbrev main_v379 : Ref sig .tc := ⟨.hbm, 455, rfl⟩
abbrev main_v380 : Ref sig .tc := ⟨.hbm, 456, rfl⟩
abbrev main_v381 : Ref sig .tc := ⟨.hbm, 457, rfl⟩
abbrev main_v382 : Ref sig .tc := ⟨.hbm, 458, rfl⟩
abbrev main_v383 : Ref sig .tc := ⟨.hbm, 459, rfl⟩
abbrev main_v384 : Ref sig .tc := ⟨.hbm, 460, rfl⟩
abbrev main_v385 : Ref sig .tc := ⟨.hbm, 461, rfl⟩
abbrev main_v386 : Ref sig .tc := ⟨.hbm, 462, rfl⟩
abbrev main_v387 : Ref sig .tc := ⟨.hbm, 463, rfl⟩
abbrev main_v388 : Ref sig .tc := ⟨.hbm, 464, rfl⟩
abbrev main_v389 : Ref sig .tc := ⟨.hbm, 465, rfl⟩
abbrev main_v390 : Ref sig .tc := ⟨.hbm, 466, rfl⟩
abbrev main_v391 : Ref sig .tc := ⟨.hbm, 467, rfl⟩
abbrev main_v392 : Ref sig .tc := ⟨.hbm, 468, rfl⟩
abbrev main_v393 : Ref sig .tc := ⟨.hbm, 469, rfl⟩
abbrev main_v394 : Ref sig .tc := ⟨.hbm, 470, rfl⟩
abbrev main_v395 : Ref sig .tc := ⟨.hbm, 471, rfl⟩
abbrev main_v396 : Ref sig .tc := ⟨.hbm, 472, rfl⟩
abbrev main_v397 : Ref sig .tc := ⟨.hbm, 473, rfl⟩
abbrev main_v398 : Ref sig .tc := ⟨.hbm, 474, rfl⟩
abbrev main_v399 : Ref sig .tc := ⟨.hbm, 475, rfl⟩
abbrev main_v400 : Ref sig .tc := ⟨.hbm, 476, rfl⟩
abbrev main_v401 : Ref sig .tc := ⟨.hbm, 477, rfl⟩
abbrev main_v402 : Ref sig .tc := ⟨.hbm, 478, rfl⟩
abbrev main_v403 : Ref sig .tc := ⟨.hbm, 479, rfl⟩
abbrev main_v404 : Ref sig .tc := ⟨.hbm, 480, rfl⟩
abbrev main_v405 : Ref sig .tc := ⟨.hbm, 481, rfl⟩
abbrev main_v406 : Ref sig .tc := ⟨.hbm, 482, rfl⟩
abbrev main_v407 : Ref sig .tc := ⟨.hbm, 483, rfl⟩
abbrev main_v408 : Ref sig .tc := ⟨.hbm, 484, rfl⟩
abbrev main_v409 : Ref sig .tc := ⟨.hbm, 485, rfl⟩
abbrev main_v410 : Ref sig .tc := ⟨.hbm, 486, rfl⟩
abbrev main_v411 : Ref sig .tc := ⟨.hbm, 487, rfl⟩
abbrev main_v412 : Ref sig .tc := ⟨.hbm, 488, rfl⟩
abbrev main_v413 : Ref sig .tc := ⟨.hbm, 489, rfl⟩
abbrev main_v414 : Ref sig .tc := ⟨.hbm, 490, rfl⟩
abbrev main_v415 : Ref sig .tc := ⟨.hbm, 491, rfl⟩
abbrev main_v416 : Ref sig .tc := ⟨.hbm, 492, rfl⟩
abbrev main_v417 : Ref sig .tc := ⟨.hbm, 493, rfl⟩
abbrev main_v418 : Ref sig .tc := ⟨.hbm, 494, rfl⟩
abbrev main_v419 : Ref sig .tc := ⟨.hbm, 495, rfl⟩
abbrev main_v420 : Ref sig .tc := ⟨.hbm, 496, rfl⟩
abbrev main_v421 : Ref sig .tc := ⟨.hbm, 497, rfl⟩
abbrev main_v422 : Ref sig .tc := ⟨.hbm, 498, rfl⟩
abbrev main_v423 : Ref sig .tc := ⟨.hbm, 499, rfl⟩
abbrev main_v424 : Ref sig .tc := ⟨.hbm, 500, rfl⟩
abbrev main_v425 : Ref sig .tc := ⟨.hbm, 501, rfl⟩
abbrev main_v426 : Ref sig .tc := ⟨.hbm, 502, rfl⟩
abbrev main_v427 : Ref sig .tc := ⟨.hbm, 503, rfl⟩
abbrev main_v428 : Ref sig .tc := ⟨.hbm, 504, rfl⟩
abbrev main_cst_17 : Ref sig .tc := ⟨.hbm, 505, rfl⟩
abbrev main_v429 : Ref sig .tc := ⟨.hbm, 506, rfl⟩
abbrev main_v430 : Ref sig .tc := ⟨.hbm, 507, rfl⟩
abbrev main_cst_18 : Ref sig .tc := ⟨.hbm, 508, rfl⟩
abbrev main_v431 : Ref sig .tc := ⟨.hbm, 509, rfl⟩
abbrev main_v432 : Ref sig .tc := ⟨.hbm, 510, rfl⟩
abbrev main_cst_19 : Ref sig .tc := ⟨.hbm, 511, rfl⟩
abbrev main_v433 : Ref sig .tc := ⟨.hbm, 512, rfl⟩
abbrev main_v434 : Ref sig .tc := ⟨.hbm, 513, rfl⟩
abbrev main_v435 : Ref sig .tc := ⟨.hbm, 514, rfl⟩
abbrev main_v436 : Ref sig .tc := ⟨.hbm, 515, rfl⟩
abbrev main_v437 : Ref sig .tc := ⟨.hbm, 516, rfl⟩
abbrev main_v438 : Ref sig .tc := ⟨.hbm, 517, rfl⟩
abbrev main_v439 : Ref sig .tc := ⟨.hbm, 518, rfl⟩
abbrev main_v440 : Ref sig .tc := ⟨.hbm, 519, rfl⟩
abbrev main_v441 : Ref sig .tc := ⟨.hbm, 520, rfl⟩
abbrev main_call7_v0 : Ref sig .tc := ⟨.hbm, 521, rfl⟩
abbrev main_call7_v1 : Ref sig .tc := ⟨.hbm, 522, rfl⟩
abbrev main_call7_cst : Ref sig .tc := ⟨.hbm, 523, rfl⟩
abbrev main_call7_v2 : Ref sig .tc := ⟨.hbm, 524, rfl⟩
abbrev main_call7_v3 : Ref sig .tc := ⟨.hbm, 525, rfl⟩
abbrev main_call7_cst_0 : Ref sig .tc := ⟨.hbm, 526, rfl⟩
abbrev main_call7_v4 : Ref sig .tc := ⟨.hbm, 527, rfl⟩
abbrev main_call7_v5 : Ref sig .tc := ⟨.hbm, 528, rfl⟩
abbrev main_v442 : Ref sig .tc := ⟨.hbm, 529, rfl⟩
abbrev main_v443 : Ref sig .tc := ⟨.hbm, 530, rfl⟩
abbrev main_v444 : Ref sig .tc := ⟨.hbm, 531, rfl⟩
abbrev main_v445 : Ref sig .tc := ⟨.hbm, 532, rfl⟩
abbrev main_v446 : Ref sig .tc := ⟨.hbm, 533, rfl⟩
abbrev main_cst_20 : Ref sig .tc := ⟨.hbm, 534, rfl⟩
abbrev main_v447 : Ref sig .tc := ⟨.hbm, 535, rfl⟩
abbrev main_v448 : Ref sig .tc := ⟨.hbm, 536, rfl⟩
abbrev main_cst_21 : Ref sig .tc := ⟨.hbm, 537, rfl⟩
abbrev main_v449 : Ref sig .tc := ⟨.hbm, 538, rfl⟩
abbrev main_v450 : Ref sig .tc := ⟨.hbm, 539, rfl⟩
abbrev main_cst_22 : Ref sig .tc := ⟨.hbm, 540, rfl⟩
abbrev main_v451 : Ref sig .tc := ⟨.hbm, 541, rfl⟩
abbrev main_v452 : Ref sig .tc := ⟨.hbm, 542, rfl⟩
abbrev main_v453 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_v459 : Ref sig .tc := ⟨.hbm, 549, rfl⟩

abbrev nD : Nat := 1
abbrev τ : Topo := Topo.v7x

variable {F : FTy → Type} [FloatOps F]
-- ==== Proof.Frames.lean ====
/- The frames of the three programs: each terminates without fault, leaves its arguments as they were and every
   semaphore counter at zero. The two kernel programs have one text, so one run serves both. -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal.Run
public import Idealize.ShloMosaic.Lib.Quiescent
public import Idealize.ShloMosaic.Adequacy
public import Idealize.ShloMosaic.Init

@[expose] public section

set_option maxRecDepth 65536

noncomputable section

namespace Cert.Layer

open Idealize.ShloMosaic Idealize.SL.Sem

/-- The ideal kernel's frame. -/
theorem frame_ideal : Cert.quiescent_KernelIdeal (hKernelIdeal := Cert.KernelIdeal.Gen.facts) :=
  fun m ρ _ => Cert.KernelIdeal.Gen.frame m ρ

/-- The two kernel programs call the same body. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

theorem defs_eq : Cert.Kernel.defs (F := Bits) = Cert.KernelIdeal.defs (F := Bits) :=
  congrArg (Pipeline.defs (Cert.KernelIdeal.pcfgs (F := Bits))) bodies_eq

set_option maxHeartbeats 4000000 in
theorem main_eq : Cert.Kernel.main (F := Bits) = Cert.KernelIdeal.main (F := Bits) := rfl

/-- The kernel's frame: its text is the ideal kernel's, so the run over the words is the same run. -/
theorem frame_kernel : Cert.quiescent_Kernel (hKernel := Cert.Kernel.Gen.facts) := by
  intro m ρ _
  rw [defs_eq, main_eq]
  exact Cert.KernelIdeal.Gen.frame (F := Bits) m ρ

/-- The reference's frame: a host program without semaphores. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems rfl r.2⟩) (Cert.ReferenceIdeal.Value.run m ρ)

end Cert.Layer

end
-- ==== Proof.Tile.lean ====
/- What the kernel's body computes at one grid point, written once for all chunks and heads: the projections of the
   normalised block, the running log decay of 128 rows, and for a chunk of 64 rows and a head the attention within the
   chunk, the state's step, and the normalised and gated output. -/
module

public import proofs.«01_k».proof.Proof.Gen.KernelIdeal.Skeleton
public import Idealize.ShloMosaic.PureOps.Ideal

@[expose] public section

noncomputable section

namespace Cert.Layer

open Idealize.ShloMosaic Cert.KernelIdeal Cert.KernelIdeal.Gen

/-- A block of a matrix at offsets that leave room for it. -/
theorem slices2 {p q r s : ℕ} (o₁ o₂ : ℕ) (h₁ : o₁ + r ≤ p) (h₂ : o₂ + s ≤ q) :
    (⟨2, ![p, q]⟩ : Shape).Slices ![o₁, o₂] ⟨2, ![r, s]⟩ :=
  ⟨rfl, fun a => by fin_cases a <;> assumption⟩

/-! ## Projections of the normalised block -/

def dotH (hb : FVec Ideal S512x1024 .bf16) (w : FVec Ideal S1024x256 .bf16) : FVec Ideal S512x256 .f32 :=
  matmul dot_S512x1024_S1024x256_S512x256_1_0_0_1_n_n none hb (shapeCast S1024x256 w shapeCasts_S1024x256_S1024x256)
    (constant S512x256 .f32 0x00000000#32)
def valueH (hb : FVec Ideal S512x1024 .bf16) (w : FVec Ideal S1024x256 .bf16) : FVec Ideal S512x256 .bf16 := truncf .bf16 (dotH hb w) bitsLt_bf16_f32
def gateH (hb : FVec Ideal S512x1024 .bf16) (w : FVec Ideal S1024x256 .bf16) : FVec Ideal S512x256 .f32 := mulf (dotH hb w) (logistic (dotH hb w))
def geluH (hb : FVec Ideal S512x1024 .bf16) (w : FVec Ideal S1024x256 .bf16) : FVec Ideal S512x256 .f32 :=
  mulf (mulf (broadcast S512x256 (Scalar.ofBits .f32 0x3F000000#32)) (dotH hb w))
    (addf (broadcast S512x256 (Scalar.ofBits .f32 0x3F800000#32))
      (erf (mulf (dotH hb w) (broadcast S512x256 (Scalar.ofBits .f32 0x3F3504F3#32)))))
def ugH (hb : FVec Ideal S512x1024 .bf16) (wu wg : FVec Ideal S1024x256 .bf16) : FVec Ideal S512x256 .f32 := mulf (geluH hb wu) (gateH hb wg)

/-! ## The running log decay of 128 rows -/

def decay (tri : FVec Ideal S128x128 .bf16) (hi lo : FVec Ideal S512x512 .bf16) (n : Fin 4) : FVec Ideal S128x512 .f32 :=
  addf
    (matmul dot_S128x128_S128x512_S128x512_1_0_0_1_n_n none tri
      (extractStridedSlice S128x512 ![n.val * 128, 0] hi (slices2 _ _ (by omega) (by omega))) (constant S128x512 .f32 0x00000000#32))
    (matmul dot_S128x128_S128x512_S128x512_1_0_0_1_n_n none tri
      (extractStridedSlice S128x512 ![n.val * 128, 0] lo (slices2 _ _ (by omega) (by omega))) (constant S128x512 .f32 0x00000000#32))

/-! ## One chunk of one head -/

def midRow (b : FVec Ideal S64x128 .f32) : FVec Ideal S64x128 .f32 :=
  broadcastTo S64x128 (extractStridedSlice S1x128 ![31, 0] b slices_S64x128_o31_0_S1x128) broadcasts_S1x128_S64x128
def lastRow (b : FVec Ideal S64x128 .f32) : FVec Ideal S1x128 .f32 := extractStridedSlice S1x128 ![63, 0] b slices_S64x128_o63_0_S1x128
def scores (b q k : FVec Ideal S64x128 .f32) : FVec Ideal S64x64 .f32 :=
  matmul dot_S64x128_S64x128_S64x64_1_1_0_0_n_n none
    (truncf .bf16 (mulf q (exp (subf b (midRow b)))) bitsLt_bf16_f32)
    (truncf .bf16 (mulf k (exp (subf (midRow b) b))) bitsLt_bf16_f32) (constant S64x64 .f32 0x00000000#32)
def intra (mask : IVec S64x64 1) (b q k : FVec Ideal S64x128 .f32) (v : FVec Ideal S64x256 .bf16) : FVec Ideal S64x256 .f32 :=
  matmul dot_S64x64_S64x256_S64x256_1_0_0_1_n_n none
    (truncf .bf16 (select mask (scores b q k) (broadcast S64x64 (Scalar.ofBits .f32 0x00000000#32))) bitsLt_bf16_f32) v
    (constant S64x256 .f32 0x00000000#32)
def decayedQ (b q : FVec Ideal S64x128 .f32) : FVec Ideal S64x128 .bf16 := truncf .bf16 (mulf q (exp b)) bitsLt_bf16_f32
def stateIn (b k : FVec Ideal S64x128 .f32) (v : FVec Ideal S64x256 .bf16) : FVec Ideal S256x128 .f32 :=
  matmul dot_S64x256_S64x128_S256x128_0_0_1_1_n_n none v
    (truncf .bf16 (mulf k (exp (subf (broadcastTo S64x128 (lastRow b) broadcasts_S1x128_S64x128) b))) bitsLt_bf16_f32)
    (constant S256x128 .f32 0x00000000#32)
def stateStep (b k : FVec Ideal S64x128 .f32) (v : FVec Ideal S64x256 .bf16) (st : FVec Ideal S256x128 .f32) : FVec Ideal S256x128 .f32 :=
  addf (mulf st (broadcastTo S256x128 (exp (lastRow b)) broadcasts_S1x128_S256x128)) (stateIn b k v)
def attended (mask : IVec S64x64 1) (b q k : FVec Ideal S64x128 .f32) (v : FVec Ideal S64x256 .bf16) (st : FVec Ideal S256x128 .f32) : FVec Ideal S64x256 .f32 :=
  addf (intra mask b q k v)
    (matmul dot_S64x128_S256x128_S64x256_1_1_0_0_n_n none (decayedQ b q) (truncf .bf16 st bitsLt_bf16_f32)
      (constant S64x256 .f32 0x00000000#32))
def rms64 (o : FVec Ideal S64x256 .f32) : FVec Ideal S64x256 .f32 :=
  broadcastTo S64x256
    (rsqrt (addf
      (divf (shapeCast S64x1 (multiReduction .add [1] S64 (mulf o o) 0x00000000#32 reduces_S64x256_S64 (.inl rfl) rfl)
        shapeCasts_S64_S64x1) (broadcast S64x1 (Scalar.ofBits .f32 0x43800000#32)))
      (broadcast S64x1 (Scalar.ofBits .f32 0x358637BD#32)))) broadcasts_S64x1_S64x256
def gated (o : FVec Ideal S64x256 .f32) (bn : FVec Ideal S1x256 .f32) (g : FVec Ideal S64x256 .f32) : FVec Ideal S64x256 .bf16 :=
  shapeCast S64x256
    (truncf .bf16
      (mulf (mulf (mulf o (rms64 o))
        (broadcastTo S64x256 (shapeCast S1x256 bn shapeCasts_S1x256_S1x256) broadcasts_S1x256_S64x256)) g) bitsLt_bf16_f32)
    shapeCasts_S64x256_S64x256

/-! ## The chunks and heads of a block of 512 rows -/

section Block
variable (tri : FVec Ideal S128x128 .bf16) (hi lo : FVec Ideal S512x512 .bf16) (q k : FVec Ideal S512x512 .f32) (v : FVec Ideal S512x256 .bf16)

def bAt (c : Fin 8) (hd : Fin 4) : FVec Ideal S64x128 .f32 :=
  extractStridedSlice S64x128 ![c.val % 2 * 64, hd.val * 128] (decay tri hi lo ⟨c.val / 2, by omega⟩)
    (slices2 _ _ (by omega) (by omega))
def rowsAt (x : FVec Ideal S512x512 .f32) (c : Fin 8) (hd : Fin 4) : FVec Ideal S64x128 .f32 :=
  extractStridedSlice S64x128 ![c.val * 64, hd.val * 128] x (slices2 _ _ (by omega) (by omega))
def rowsOf {φ : FTy} (x : FVec Ideal S512x256 φ) (c : Fin 8) : FVec Ideal S64x256 φ :=
  extractStridedSlice S64x256 ![c.val * 64, 0] x (slices2 _ _ (by omega) (by omega))

/-- The state before chunk `n`, from the state before the block. -/
def stateAt (hd : Fin 4) (st : FVec Ideal S256x128 .f32) : (n : ℕ) → n ≤ 8 → FVec Ideal S256x128 .f32
  | 0, _ => st
  | n + 1, h => stateStep (bAt tri hi lo ⟨n, h⟩ hd) (rowsAt k ⟨n, h⟩ hd) (rowsOf v ⟨n, h⟩) (stateAt hd st n (Nat.le_of_succ_le h))

/-- What is stored of chunk `c` of head `hd`. -/
def chunkOut (mask : IVec S64x64 1) (g : FVec Ideal S512x256 .f32) (bn : FVec Ideal S1x256 .f32) (st : FVec Ideal S256x128 .f32) (hd : Fin 4) (c : Fin 8) :
    FVec Ideal S64x256 .bf16 :=
  gated
    (attended mask (bAt tri hi lo c hd) (rowsAt q c hd) (rowsAt k c hd) (rowsOf v c)
      (stateAt tri hi lo k v hd st c.val (Nat.le_of_lt c.isLt)))
    bn (rowsOf g c)

end Block

/-! ## The spatial mixing of 128 rows and 128 channels -/

def spatial (causal : IVec S128x128 1) (w : FVec Ideal S1x128x128 .f32) (vn : FVec Ideal S512x1024 .bf16) (bias : FVec Ideal S128x128 .f32) (ug : FVec Ideal S512x256 .f32)
    (gr : Fin 8) (n : Fin 4) : FVec Ideal S128x128 .bf16 :=
  shapeCast S128x128
    (truncf .bf16
      (mulf
        (extractStridedSlice S128x128 ![n.val * 128, 0]
          (extractStridedSlice S512x128 ![0, gr.val % 2 * 128] ug (slices2 _ _ (by omega) (by omega)) : FVec Ideal S512x128 .f32)
          (slices2 _ _ (by omega) (by omega)))
        (addf
          (matmul dot_S128x128_S128x128_S128x128_1_0_0_1_n_n none
            (truncf .bf16 (select causal (shapeCast S128x128 w shapeCasts_S1x128x128_S128x128)
              (broadcast S128x128 (Scalar.ofBits .f32 0x00000000#32))) bitsLt_bf16_f32)
            (extractStridedSlice S128x128 ![n.val * 128, gr.val * 128] vn (slices2 _ _ (by omega) (by omega)))
            (constant S128x128 .f32 0x00000000#32))
          (shapeCast S128x128 bias shapeCasts_S128x128_S128x128))) bitsLt_bf16_f32)
    shapeCasts_S128x128_S128x128

end Cert.Layer

end
-- ==== Proof.Block.lean ====
/- One grid point of the kernel, from the blocks that it reads: the pieces that its stores leave in the scratch memory of
   the two branches side by side and in the carried state, and the block that it writes. -/
module

public import proofs.«01_k».proof.Proof.Tile
public import Idealize.ShloMosaic.Lib.Pipeline.ValueKit

@[expose] public section

noncomputable section

namespace Cert.Layer

open Idealize.ShloMosaic Idealize.SL.Sem Cert.KernelIdeal Cert.KernelIdeal.Gen

/-- What a grid point reads. -/
structure Blk where
  x : FVec Ideal S1x512x1024 .f32
  pg : FVec Ideal S1x1024 .f32
  win : FVec Ideal S1024x6144 .bf16
  wl : FVec Ideal S1024x128 .bf16
  wa : FVec Ideal S128x512 .bf16
  ba : FVec Ideal S1x512 .f32
  lg : FVec Ideal S1x1024 .f32
  lb : FVec Ideal S1x1024 .f32
  ws : FVec Ideal S8x128x128 .f32
  bs : FVec Ideal S128x1024 .f32
  bn : FVec Ideal S1x1024 .f32
  wo : FVec Ideal S2048x1024 .bf16
  og : FVec Ideal S1x1024 .f32
  st : FVec Ideal S4x256x128 .f32

namespace Blk

variable (B : Blk)

def hb : FVec Ideal S512x1024 .bf16 := k0_pay5 B.x B.pg
/-- 256 columns of the input weight from column `o`. -/
def cols (o : ℕ) (h : o + 256 ≤ 6144) : FVec Ideal S1024x256 .bf16 :=
  View.ld (Val := Elt Ideal) (e' := .bf16) B.win (Rect.unit (s := S1024x6144) ![0, o] ![1024, 256] (slices2 (p := 1024) (q := 6144) (r := 1024) (s := 256) 0 o (by omega) h).2)
def cols512 (o : ℕ) (h : o + 512 ≤ 6144) : FVec Ideal S1024x512 .bf16 :=
  View.ld (Val := Elt Ideal) (e' := .bf16) B.win (Rect.unit (s := S1024x6144) ![0, o] ![1024, 512] (slices2 (p := 1024) (q := 6144) (r := 1024) (s := 512) 0 o (by omega) h).2)
def q : FVec Ideal S512x512 .f32 := k0_pay6 B.x B.pg (B.cols512 3072 (by omega))
def k : FVec Ideal S512x512 .f32 := k0_pay7 B.x B.pg (B.cols512 3584 (by omega))
def lr : FVec Ideal S512x128 .bf16 := k0_pay8 B.x B.pg B.wl
def hi : FVec Ideal S512x512 .bf16 := k0_pay10 B.lr B.wa B.ba
def lo : FVec Ideal S512x512 .bf16 := k0_pay11 B.lr B.wa B.ba
def row128 : IVec S128x128 32 := iota .tc S128x128 32 [0] iota_S128x128_d0_w32
def col128 : IVec S128x128 32 := iota .tc S128x128 32 [1] iota_S128x128_d1_w32
def tri : FVec Ideal S128x128 .bf16 := k0_pay15 row128 (k0_pay12 row128 col128) (k0_pay13 col128) 64#32 k0_pay14
def v (hd : Fin 4) : FVec Ideal S512x256 .bf16 := valueH B.hb (B.cols (4096 + hd.val * 256) (by omega))
def gb (hd : Fin 4) : FVec Ideal S512x256 .f32 := gateH B.hb (B.cols (5120 + hd.val * 256) (by omega))
def ga (hd : Fin 4) : FVec Ideal S512x256 .f32 := geluH B.hb (B.cols (1024 + hd.val * 256) (by omega))
def ug (hd : Fin 4) : FVec Ideal S512x256 .f32 :=
  ugH B.hb (B.cols (hd.val * 256) (by omega)) (B.cols (2048 + hd.val * 256) (by omega))
def bnH (hd : Fin 4) : FVec Ideal S1x256 .f32 :=
  View.ld (Val := Elt Ideal) (e' := .f32) B.bn (Rect.unit (s := S1x1024) ![0, hd.val * 256] ![1, 256] (slices2 (p := 1) (q := 1024) (r := 1) (s := 256) 0 _ (by omega) (by omega)).2)
/-- The state of a head before the block. -/
def st0 (hd : Fin 4) : FVec Ideal S256x128 .f32 :=
  shapeCast S256x128
    (View.ld (Val := Elt Ideal) (e' := .f32) B.st (Rect.unit (s := S4x256x128) ![hd.val, 0, 0] ![1, 256, 128] (by intro a; fin_cases a <;> simp <;> omega)) : FVec Ideal S1x256x128 .f32)
    shapeCasts_S1x256x128_S256x128
/-- The state of a head before chunk `n`. -/
def stN (hd : Fin 4) (n : ℕ) (h : n ≤ 8) : FVec Ideal S256x128 .f32 :=
  stateAt tri B.hi B.lo B.k (B.v hd) hd (B.st0 hd) n h
/-- What is stored of chunk `c` of head `hd`. -/
def tile (hd : Fin 4) (c : Fin 8) : FVec Ideal S64x256 .bf16 :=
  chunkOut tri B.hi B.lo B.q B.k (B.v hd) k0_pay21 (B.gb hd) (B.bnH hd) (B.st0 hd) hd c
def tilePiece (hd : Fin 4) (c : Fin 8) : View.Piece (Elt Ideal) S512x2048 .bf16 :=
  ⟨Rect.unit (s := S512x2048) ![c.val * 64, 1024 + hd.val * 256] ![64, 256]
    (slices2 (p := 512) (q := 2048) (r := 64) (s := 256) _ _ (by omega) (by omega)).2, B.tile hd c⟩
/-- The first `n` stores of the second branch, the last first. -/
def tiles : (n : ℕ) → n ≤ 32 → List (View.Piece (Elt Ideal) S512x2048 .bf16)
  | 0, _ => []
  | n + 1, h => B.tilePiece ⟨n / 8, by omega⟩ ⟨n % 8, by omega⟩ :: tiles n (by omega)

def statePiece (hd : Fin 4) : View.Piece (Elt Ideal) S4x256x128 .f32 :=
  ⟨Rect.unit (s := S4x256x128) ![hd.val, 0, 0] ![1, 256, 128] (by intro a; fin_cases a <;> simp <;> omega),
    shapeCast S1x256x128 (B.stN hd 8 le_rfl) shapeCasts_S256x128_S1x256x128⟩
def states : List (View.Piece (Elt Ideal) S4x256x128 .f32) :=
  [B.statePiece 3, B.statePiece 2, B.statePiece 1, B.statePiece 0]

def vn : FVec Ideal S512x1024 .bf16 := k0_pay461 (B.ga 0) (B.ga 1) (B.ga 2) (B.ga 3) B.lg B.lb
def causal : IVec S128x128 1 := k0_pay462 row128 col128
def mixTile (gr : Fin 8) (n : Fin 4) : FVec Ideal S128x128 .bf16 :=
  spatial causal
    (View.ld (Val := Elt Ideal) (e' := .f32) B.ws (Rect.unit (s := S8x128x128) ![gr.val, 0, 0] ![1, 128, 128] (by intro a; fin_cases a <;> simp <;> omega)) : FVec Ideal S1x128x128 .f32)
    B.vn
    (View.ld (Val := Elt Ideal) (e' := .f32) B.bs (Rect.unit (s := S128x1024) ![0, gr.val * 128] ![128, 128] (slices2 (p := 128) (q := 1024) (r := 128) (s := 128) 0 _ (by omega) (by omega)).2))
    (B.ug ⟨gr.val / 2, by omega⟩) gr n
def mixPiece (gr : Fin 8) (n : Fin 4) : View.Piece (Elt Ideal) S512x2048 .bf16 :=
  ⟨Rect.unit (s := S512x2048) ![n.val * 128, gr.val * 128] ![128, 128]
    (slices2 (p := 512) (q := 2048) (r := 128) (s := 128) _ _ (by omega) (by omega)).2, B.mixTile gr n⟩
/-- The first `n` stores of the first branch, the last first, over those of the second. -/
def mixTiles : (n : ℕ) → n ≤ 32 → List (View.Piece (Elt Ideal) S512x2048 .bf16)
  | 0, _ => B.tiles 32 le_rfl
  | n + 1, h => B.mixPiece ⟨n / 4, by omega⟩ ⟨n % 4, by omega⟩ :: mixTiles n (by omega)

/-- The block that is written, from the two branches' halves. -/
def final (b a : FVec Ideal S512x1024 .bf16) : FVec Ideal S1x512x1024 .f32 :=
  k0_pay2 (k0_pay4 B.x)
    (k0_pay460 b (View.ld (Val := Elt Ideal) (e' := .bf16) B.wo (Rect.unit (s := S2048x1024) ![1024, 0] ![1024, 1024] inb_S2048x1024_S1024x1024_1024_0)))
    a (View.ld (Val := Elt Ideal) (e' := .bf16) B.wo (Rect.unit (s := S2048x1024) ![0, 0] ![1024, 1024] inb_S2048x1024_S1024x1024_0_0)) B.og

end Blk

end Cert.Layer

end
-- ==== Proof.Piece.lean ====
/- The stores of a grid point, matched with the generic ones piece by piece. -/
module
public import proofs.«01_k».proof.Proof.Gen.KernelIdeal.Value
public import proofs.«01_k».proof.Proof.Block
public import Idealize.ShloMosaic.Lib.Pipeline.ValueKit
public import Idealize.ShloMosaic.Lib.Pipeline.ReadBack
@[expose] public section
set_option maxRecDepth 16384
noncomputable section
namespace Cert.Layer
open Idealize.ShloMosaic Idealize.ShloMosaic.Pipeline Idealize.ShloMosaic.ValueIdx Idealize.SL Idealize.SL.Sem Cert.KernelIdeal Cert.KernelIdeal.Gen Cert.KernelIdeal.Value
theorem cons_congr {α : Type*} {a b : α} {l l' : List α} (h' : l = l') (h : a = b) : a :: l = b :: l' := h ▸ h' ▸ rfl
/-- What point `t` reads, from the state `st` carried to it. -/
def blk (m : (ℓ : Loc nD τ sig) → Buf (Elt Ideal) ℓ) (c : Dev nD) (t : Fin cfg0.N) (st : FVec Ideal S4x256x128 .f32) : Blk :=
  ⟨iblk m c 0 t, iblk m c 1 t, iblk m c 2 t, iblk m c 3 t, iblk m c 4 t, iblk m c 5 t, iblk m c 6 t, iblk m c 7 t, iblk m c 8 t,
    iblk m c 9 t, iblk m c 10 t, iblk m c 11 t, iblk m c 12 t, st⟩
namespace Blk
variable (B : Blk)
theorem tilePiece_congr (hd : Fin 4) (c : Fin 8) {o₁ o₂ : ℕ} (h) (X : FVec Ideal S64x256 .bf16) (h₁ : o₁ = c.val * 64) (h₂ : o₂ = 1024 + hd.val * 256)
    (hX : X = B.tile hd c) : (⟨Rect.unit (s := S512x2048) ![o₁, o₂] ![64, 256] h, X⟩ : View.Piece (Elt Ideal) S512x2048 .bf16) = B.tilePiece hd c := by
  subst h₁ h₂ hX; rfl
theorem mixPiece_congr (gr : Fin 8) (n : Fin 4) {o₁ o₂ : ℕ} (h) (X : FVec Ideal S128x128 .bf16) (h₁ : o₁ = n.val * 128) (h₂ : o₂ = gr.val * 128)
    (hX : X = B.mixTile gr n) : (⟨Rect.unit (s := S512x2048) ![o₁, o₂] ![128, 128] h, X⟩ : View.Piece (Elt Ideal) S512x2048 .bf16) = B.mixPiece gr n := by
  subst h₁ h₂ hX; rfl
/-- The block that the point writes. -/
def block : FVec Ideal S1x512x1024 .f32 :=
  B.final (fun j => View.canon (B.tiles 32 le_rfl) ((Rect.unit (s := S512x2048) ![0, 1024] ![512, 1024] inb_S512x2048_S512x1024_0_1024).toLoadRect.idx j)) (fun j => View.canon (B.mixTiles 32 le_rfl) ((Rect.unit (s := S512x2048) ![0, 0] ![512, 1024] inb_S512x2048_S512x1024_0_0).toLoadRect.idx j))
theorem block_congr (L M : List (View.Piece (Elt Ideal) S512x2048 .bf16)) (x : FVec Ideal S1x512x1024 .f32) (wo : FVec Ideal S2048x1024 .bf16) (og : FVec Ideal S1x1024 .f32) (y)
   (hL : L = B.tiles 32 le_rfl) (hM : M = B.mixTiles 32 le_rfl) (hx : x = B.x) (hwo : wo = B.wo) (hog : og = B.og) :
  k0_pay2 (k0_pay4 x)
    (k0_pay460 ((View.whole cc0_scratch0).readCov (Val := Elt Ideal) L (Rect.unit (s := S512x2048) ![0, 1024] ![512, 1024] inb_S512x2048_S512x1024_0_1024).toLoadRect) (View.ld (Val := Elt Ideal) (e' := .bf16) wo (Rect.unit (s := S2048x1024) ![1024, 0] ![1024, 1024] inb_S2048x1024_S1024x1024_1024_0)))
    ((View.whole cc0_scratch0).readCov (Val := Elt Ideal) M (Rect.unit (s := S512x2048) ![0, 0] ![512, 1024] inb_S512x2048_S512x1024_0_0).toLoadRect) (View.ld (Val := Elt Ideal) (e' := .bf16) wo (Rect.unit (s := S2048x1024) ![0, 0] ![1024, 1024] inb_S2048x1024_S1024x1024_0_0)) og y = B.block y := by
  subst hL hM hx hwo hog
  rw [View.readCov_eq_canon', View.readCov_eq_canon']; rfl
end Blk
end Cert.Layer

end
-- ==== Proof.Layer.lean ====
/- The layer as functions of natural-number coordinates: what both programs are shown to compute. -/
module

public import Idealize.ShloMosaic.PureOps.Ideal
public import Idealize.ShloMosaic.Lib.Pointwise

@[expose] public section

noncomputable section

namespace Cert.Layer

open Idealize.ShloMosaic

/-- The element of a rank-2 array at natural-number coordinates. -/
def rd2 {n0 n1 : Nat} (x : (⟨2, ![n0, n1]⟩ : Shape).Idx → EReal) (a b : ℕ) : EReal :=
  if h : a < n0 ∧ b < n1 then x (ValueIdx.ix2 ⟨a, h.1⟩ ⟨b, h.2⟩) else 0
/-- The element of a rank-3 array at natural-number coordinates. -/
def rd3 {n0 n1 n2 : Nat} (x : (⟨3, ![n0, n1, n2]⟩ : Shape).Idx → EReal) (a b c : ℕ) : EReal :=
  if h : a < n0 ∧ b < n1 ∧ c < n2 then x (ValueIdx.ix3 ⟨a, h.1⟩ ⟨b, h.2.1⟩ ⟨c, h.2.2⟩) else 0
/-- The element of a rank-4 array at natural-number coordinates. -/
def rd4 {n0 n1 n2 n3 : Nat} (x : (⟨4, ![n0, n1, n2, n3]⟩ : Shape).Idx → EReal) (a b c d : ℕ) : EReal :=
  if h : a < n0 ∧ b < n1 ∧ c < n2 ∧ d < n3 then x (ValueIdx.ix4 ⟨a, h.1⟩ ⟨b, h.2.1⟩ ⟨c, h.2.2.1⟩ ⟨d, h.2.2.2⟩) else 0

theorem rd2_eq {n0 n1 : Nat} (x : (⟨2, ![n0, n1]⟩ : Shape).Idx → EReal) (i : (⟨2, ![n0, n1]⟩ : Shape).Idx) {a b : ℕ}
    (ha : (i 0).val = a) (hb : (i 1).val = b) : x i = rd2 x a b := by
  subst ha hb
  rw [rd2, dif_pos ⟨(i 0).isLt, (i 1).isLt⟩]
  exact congrArg x (funext fun k => by match k with | ⟨0, _⟩ => rfl | ⟨1, _⟩ => rfl)
theorem rd3_eq {n0 n1 n2 : Nat} (x : (⟨3, ![n0, n1, n2]⟩ : Shape).Idx → EReal) (i : (⟨3, ![n0, n1, n2]⟩ : Shape).Idx)
    {a b c : ℕ} (ha : (i 0).val = a) (hb : (i 1).val = b) (hc : (i 2).val = c) : x i = rd3 x a b c := by
  subst ha hb hc
  rw [rd3, dif_pos ⟨(i 0).isLt, (i 1).isLt, (i 2).isLt⟩]
  exact congrArg x (funext fun k => by match k with | ⟨0, _⟩ => rfl | ⟨1, _⟩ => rfl | ⟨2, _⟩ => rfl)
theorem rd4_eq {n0 n1 n2 n3 : Nat} (x : (⟨4, ![n0, n1, n2, n3]⟩ : Shape).Idx → EReal)
    (i : (⟨4, ![n0, n1, n2, n3]⟩ : Shape).Idx) {a b c d : ℕ} (ha : (i 0).val = a) (hb : (i 1).val = b)
    (hc : (i 2).val = c) (hd : (i 3).val = d) : x i = rd4 x a b c d := by
  subst ha hb hc hd
  rw [rd4, dif_pos ⟨(i 0).isLt, (i 1).isLt, (i 2).isLt, (i 3).isLt⟩]
  exact congrArg x (funext fun k => by
    match k with | ⟨0, _⟩ => rfl | ⟨1, _⟩ => rfl | ⟨2, _⟩ => rfl | ⟨3, _⟩ => rfl)

/-- The arguments of the layer. -/
structure Args where
  x : ℕ → ℕ → ℕ → EReal
  pg : ℕ → EReal
  win : ℕ → ℕ → EReal
  wa : ℕ → ℕ → EReal
  ba : ℕ → EReal
  lg : ℕ → EReal
  lb : ℕ → EReal
  ws : ℕ → ℕ → ℕ → EReal
  bs : ℕ → ℕ → EReal
  bn : ℕ → EReal
  wo : ℕ → ℕ → EReal
  og : ℕ → EReal

/-- The arguments read from the twelve arrays. -/
def args (x0 : (⟨3, ![8, 2048, 1024]⟩ : Shape).Idx → EReal) (x1 : (⟨2, ![1, 1024]⟩ : Shape).Idx → EReal)
    (x2 : (⟨3, ![1, 1024, 6160]⟩ : Shape).Idx → EReal) (x3 : (⟨3, ![1, 16, 512]⟩ : Shape).Idx → EReal)
    (x4 : (⟨2, ![1, 512]⟩ : Shape).Idx → EReal) (x5 x6 : (⟨2, ![1, 1024]⟩ : Shape).Idx → EReal)
    (x7 : (⟨4, ![1, 8, 128, 128]⟩ : Shape).Idx → EReal) (x8 : (⟨3, ![1, 8, 128]⟩ : Shape).Idx → EReal)
    (x9 : (⟨2, ![1, 1024]⟩ : Shape).Idx → EReal) (x10 : (⟨3, ![1, 2048, 1024]⟩ : Shape).Idx → EReal)
    (x11 : (⟨2, ![1, 1024]⟩ : Shape).Idx → EReal) : Args where
  x := rd3 x0
  pg := rd2 x1 0
  win := rd3 x2 0
  wa := rd3 x3 0
  ba := rd2 x4 0
  lg := rd2 x5 0
  lb := rd2 x6 0
  ws := rd4 x7 0
  bs := rd3 x8 0
  bn := rd2 x9 0
  wo := rd3 x10 0
  og := rd2 x11 0

/-- The reciprocal root mean square of `n` values, `cn` their number. -/
def rms (n : ℕ) (cn : EReal) (f : ℕ → EReal) : EReal :=
  Ideal.rsqrt (Ideal.div (∑ k : Fin n, f k * f k) cn + Ideal.ofBits .f32 0x358637BD#32)

def gelu (x : EReal) : EReal :=
  Ideal.ofBits .f32 0x3F000000#32 * x * Ideal.erfc (-x * Ideal.ofBits .f32 0x3F3504F3#32)
def silu (x : EReal) : EReal := x * Ideal.div 1 (1 + Ideal.exp (-x))
def lsig (x : EReal) : EReal := -(max (-x) 0 + Ideal.log1p (Ideal.exp (-(max (-x) x))))

abbrev c1024 : EReal := Ideal.ofBits .f32 0x44800000#32
abbrev c256 : EReal := Ideal.ofBits .f32 0x43800000#32

namespace Args
variable (A : Args)

/-- The normalised input, and the input projection. -/
def h (b s d : ℕ) : EReal := A.x b s d * rms 1024 c1024 (A.x b s) * A.pg d
def z (b s e : ℕ) : EReal := ∑ d : Fin 1024, A.h b s d * A.win d e

/-- The gated branch: layer norm, spatial mixing, gate. -/
def va (b s e : ℕ) : EReal := gelu (A.z b s (1024 + e))
def vc (b s e : ℕ) : EReal := A.va b s e - Ideal.div (∑ k : Fin 1024, A.va b s k) c1024
def vn (b s e : ℕ) : EReal := A.vc b s e * rms 1024 c1024 (A.vc b s) * A.lg e + A.lb e
def sp (b s e : ℕ) : EReal :=
  (∑ t : Fin 128, A.vn b (s / 128 * 128 + t) e * (if (t : ℕ) ≤ s % 128 then A.ws (e / 128) (s % 128) t else 0))
    + A.bs (e / 128) (s % 128)
def aout (b s e : ℕ) : EReal := gelu (A.z b s e) * A.sp b s e * silu (A.z b s (2048 + e))

/-- The log decay and its running sum within a chunk. -/
def logit (b s e : ℕ) : EReal := (∑ r : Fin 16, A.z b s (6144 + r) * A.wa r e) + A.ba e
def la (b s e : ℕ) : EReal := Ideal.div (lsig (A.logit b s e)) (Ideal.ofBits .f32 0x41800000#32)
def cum (b s e : ℕ) : EReal := ∑ k : Fin 64, if (k : ℕ) ≤ s % 64 then A.la b (s / 64 * 64 + k) e else 0
def cumLast (b s e : ℕ) : EReal := A.cum b (s / 64 * 64 + 63) e
def cumMid (b s e : ℕ) : EReal := A.cum b (s / 64 * 64 + 31) e

def q (b s e : ℕ) : EReal := A.z b s (3072 + e) * Ideal.ofBits .f32 0x3DB504F3#32
def k (b s e : ℕ) : EReal := A.z b s (3584 + e)
def v (b s e : ℕ) : EReal := A.z b s (4096 + e)
def qe (b s e : ℕ) : EReal := A.q b s e * Ideal.exp (A.cum b s e - A.cumMid b s e)
def ke (b s e : ℕ) : EReal := A.k b s e * Ideal.exp (A.cumMid b s e - A.cum b s e)
def kd (b s e : ℕ) : EReal := A.k b s e * Ideal.exp (A.cumLast b s e - A.cum b s e)
def qb (b s e : ℕ) : EReal := A.q b s e * Ideal.exp (A.cum b s e)

/-- Attention within a chunk; the state before each chunk; attention through the state. -/
def score (b s s' hd : ℕ) : EReal := ∑ d : Fin 128, A.qe b s (hd * 128 + d) * A.ke b s' (hd * 128 + d)
def oIntra (b s e : ℕ) : EReal :=
  ∑ t : Fin 64, (if (t : ℕ) ≤ s % 64 then A.score b s (s / 64 * 64 + t) (e / 256) else 0) * A.v b (s / 64 * 64 + t) e
def kv (b c d e : ℕ) : EReal := ∑ t : Fin 64, A.kd b (c * 64 + t) (e / 256 * 128 + d) * A.v b (c * 64 + t) e
def st (b d e : ℕ) : ℕ → EReal
  | 0 => 0
  | c + 1 => Ideal.exp (A.cum b (c * 64 + 63) (e / 256 * 128 + d)) * st b d e c + A.kv b c d e
def oInter (b s e : ℕ) : EReal := ∑ d : Fin 128, A.qb b s (e / 256 * 128 + d) * A.st b d e (s / 64)
def o (b s e : ℕ) : EReal := A.oIntra b s e + A.oInter b s e
def bout (b s e : ℕ) : EReal :=
  A.o b s e * rms 256 c256 (fun u => A.o b s (e / 256 * 256 + u)) * A.bn e * silu (A.z b s (5120 + e))

/-- The output projection, the post-norm and the residual. -/
def mixed (b s e : ℕ) : EReal := if e < 1024 then A.aout b s e else A.bout b s (e - 1024)
def y (b s d : ℕ) : EReal := ∑ e : Fin 2048, A.mixed b s e * A.wo e d
def out (b s d : ℕ) : EReal := A.x b s d + A.y b s d * rms 1024 c1024 (A.y b s) * A.og d

end Args

end Cert.Layer

end
-- ==== Proof.Pure.lean ====
/- Facts about the activations on the extended reals, and the running sum a `reduce_window` computes. -/
module

public import proofs.«01_k».proof.Proof.Layer
public import Idealize.ShloMosaic.Lib.IdealHost
public import Idealize.ShloMosaic.PureOps.Ideal.Laws

@[expose] public section

noncomputable section

namespace Cert.Layer

open Idealize.ShloMosaic

/-- The kernel's GELU is the reference's. -/
theorem gelu_eq (x : EReal) :
    Ideal.ofBits .f32 0x3F000000#32 * x * (Ideal.ofBits .f32 0x3F800000#32 + Ideal.erf (x * Ideal.ofBits .f32 0x3F3504F3#32))
      = gelu x := by
  rw [gelu, neg_mul, Ideal.erfc_neg, Ideal.ofBits_one_f32]

theorem half_eq : Ideal.ofBits .f32 0x3F000000#32 = ((1 / 2 : ℝ) : EReal) := by
  simp [Ideal.ofBits, Ideal.ieee]; norm_cast; norm_num
theorem sixteenth_eq : Ideal.ofBits .f32 0x3D800000#32 = ((1 / 16 : ℝ) : EReal) := by
  simp [Ideal.ofBits, Ideal.ieee]; norm_cast; norm_num
theorem sixteen_eq : Ideal.ofBits .f32 0x41800000#32 = ((16 : ℝ) : EReal) := by
  simp [Ideal.ofBits, Ideal.ieee]; norm_cast; norm_num

/-- The kernel's SiLU, half the argument and its hyperbolic tangent, is the reference's at a real number. -/
theorem silu_real (r : ℝ) :
    Ideal.ofBits .f32 0x3F000000#32 * (r : EReal)
      + Ideal.ofBits .f32 0x3F000000#32 * (r : EReal) * Ideal.tanh (Ideal.ofBits .f32 0x3F000000#32 * (r : EReal))
      = silu (r : EReal) := by
  have h1 : (0 : ℝ) < 1 + Real.exp (-r) := by positivity
  rw [half_eq, silu, ← EReal.coe_mul, ← EReal.coe_neg]
  show _ + _ * ((Real.tanh (1 / 2 * r) : ℝ) : EReal) = (r : EReal) * Ideal.div 1 (1 + ((Real.exp (-r) : ℝ) : EReal))
  rw [← EReal.coe_one, ← EReal.coe_add, Ideal.div_coe h1.ne', ← EReal.coe_mul, ← EReal.coe_mul, ← EReal.coe_add]
  congr 1
  rw [Real.tanh_eq_sinh_div_cosh, Real.sinh_eq, Real.cosh_eq]
  have e : Real.exp (-r) = Real.exp (-(1 / 2 * r)) * Real.exp (-(1 / 2 * r)) := by rw [← Real.exp_add]; congr 1; ring
  have e' : Real.exp (1 / 2 * r) * Real.exp (-(1 / 2 * r)) = 1 := by rw [← Real.exp_add]; simp
  have p1 := Real.exp_pos (1 / 2 * r)
  have p2 := Real.exp_pos (-(1 / 2 * r))
  have p3 : Real.exp (1 / 2 * r) = (Real.exp (-(1 / 2 * r)))⁻¹ := eq_inv_of_mul_eq_one_left e'
  rw [e, p3]
  generalize Real.exp (-(1 / 2 * r)) = a at p2
  field_simp
  ring

theorem log1p_exp_real (r : ℝ) : Ideal.log1p (Ideal.exp (r : EReal)) = ((Real.log (1 + Real.exp r) : ℝ) : EReal) := by
  have h1 : (0 : ℝ) < 1 + Real.exp r := by positivity
  show Ideal.log (1 + ((Real.exp r : ℝ) : EReal)) = _
  rw [← EReal.coe_one, ← EReal.coe_add]
  show (if (1 + Real.exp r) ≤ 0 then (⊥ : EReal) else ((Real.log (1 + Real.exp r) : ℝ) : EReal)) = _
  rw [if_neg (not_le.mpr h1)]

theorem log1p_zero : Ideal.log1p 0 = 0 := by
  have := log1p_exp_real 0
  show Ideal.log (1 + 0) = 0
  rw [add_zero, ← EReal.coe_one]
  show (if (1 : ℝ) ≤ 0 then (⊥ : EReal) else ((Real.log 1 : ℝ) : EReal)) = 0
  rw [if_neg (by norm_num), Real.log_one, EReal.coe_zero]

theorem lsig_bot : lsig ⊥ = ⊥ := by
  have : Ideal.exp ⊥ = 0 := rfl
  simp [lsig, this, log1p_zero]
theorem lsig_top : lsig ⊤ = 0 := by
  have : Ideal.exp ⊥ = 0 := rfl
  simp [lsig, this, log1p_zero]

/-- The kernel's log-sigmoid is the reference's. -/
theorem lsig_eq (x : EReal) : min x 0 - Ideal.log (1 + Ideal.exp (-(max x (-x)))) = lsig x := by
  change min x 0 - Ideal.log1p (Ideal.exp _) = _
  have hb : Ideal.exp ⊥ = 0 := rfl
  induction x using EReal.rec with
  | bot => simp [lsig_bot, hb, log1p_zero]
  | top => simp [lsig_top, hb, log1p_zero]
  | coe r =>
    rw [lsig, max_comm (r : EReal) (-r)]
    have e : (max (-(r : EReal)) (r : EReal)) = ((max (-r) r : ℝ) : EReal) := by
      rw [← EReal.coe_neg]; exact (EReal.coe_strictMono.monotone.map_max).symm
    have e1 : (max (-(r : EReal)) 0) = ((max (-r) 0 : ℝ) : EReal) := by
      rw [← EReal.coe_neg, ← EReal.coe_zero]; exact (EReal.coe_strictMono.monotone.map_max).symm
    have e2 : (min (r : EReal) 0) = ((min r 0 : ℝ) : EReal) := by
      rw [← EReal.coe_zero]; exact (EReal.coe_strictMono.monotone.map_min).symm
    rw [e, e1, e2, ← EReal.coe_neg, log1p_exp_real, ← EReal.coe_sub, ← EReal.coe_add, ← EReal.coe_neg]
    congr 1
    rcases le_total r 0 with h | h
    · rw [min_eq_left h, max_eq_left (a := -r) (b := 0) (by linarith)]; ring
    · rw [min_eq_right h, max_eq_right (a := -r) (b := 0) (by linarith)]; ring

/-- The log-sigmoid is at most zero, so it is a real number or minus infinity. -/
theorem lsig_nonpos (x : EReal) : lsig x ≤ 0 := by
  induction x using EReal.rec with
  | bot => simp [lsig_bot]
  | top => simp [lsig_top]
  | coe r =>
    rw [lsig]
    have e : (max (-(r : EReal)) (r : EReal)) = ((max (-r) r : ℝ) : EReal) := by
      rw [← EReal.coe_neg]; exact (EReal.coe_strictMono.monotone.map_max).symm
    have e1 : (max (-(r : EReal)) 0) = ((max (-r) 0 : ℝ) : EReal) := by
      rw [← EReal.coe_neg, ← EReal.coe_zero]; exact (EReal.coe_strictMono.monotone.map_max).symm
    rw [e, e1, ← EReal.coe_neg, log1p_exp_real, ← EReal.coe_add, ← EReal.coe_neg, ← EReal.coe_zero, EReal.coe_le_coe_iff]
    have := Real.log_nonneg (x := 1 + Real.exp (-(max (-r) r))) (by linarith [Real.exp_pos (-(max (-r) r))])
    have := le_max_right (-r) 0
    linarith

/-- Times one sixteenth is divided by sixteen. -/
theorem sixteenth_mul (x : EReal) :
    x * Ideal.ofBits .f32 0x3D800000#32 = Ideal.div x (Ideal.ofBits .f32 0x41800000#32) := by
  rw [sixteenth_eq, sixteen_eq, Ideal.div, if_neg (by exact_mod_cast (by norm_num : (16 : ℝ) ≠ 0)), ← EReal.coe_inv]
  norm_num

theorem div16_nonpos {x : EReal} (h : x ≤ 0) : Ideal.div x (Ideal.ofBits .f32 0x41800000#32) ≤ 0 := by
  rw [← sixteenth_mul, sixteenth_eq]
  exact mul_nonpos_of_nonpos_of_nonneg h (by exact_mod_cast (by norm_num : (0 : ℝ) ≤ 1 / 16))

/-- Summing values at most zero, and then what each differs from itself by (nothing, or minus infinity where
    it is minus infinity), is summing them. -/
theorem sum_add_sum_sub {n : ℕ} (f : Fin n → EReal) (hf : ∀ k, f k ≤ 0) :
    (∑ k, f k) + (∑ k, (f k - f k)) = ∑ k, f k := by
  rw [← Finset.sum_add_distrib]
  refine Finset.sum_congr rfl fun k _ => ?_
  have := hf k
  revert this
  induction f k using EReal.rec with
  | bot => intro _; simp
  | top => intro h; exact absurd h (by simp)
  | coe r => intro _; rw [← EReal.coe_sub, sub_self, EReal.coe_zero, add_zero]

theorem foldl_add_eq {n : ℕ} (g : Fin n → EReal) (v : EReal) :
    (List.finRange n).foldl (fun r k => r + g k) v = v + ∑ k, g k := by
  rw [Fin.sum_univ_def]
  generalize List.finRange n = l
  induction l generalizing v with
  | nil => simp
  | cons a l ih => rw [List.foldl_cons, ih, List.map_cons, List.sum_cons, add_assoc]

/-- A window that ends at the position, its places before the start left out, is the sum up to the position. -/
theorem window_sum (x : ℕ → EReal) (j : ℕ) (hj : j < 64) :
    (∑ n : Fin 64, if 63 ≤ j + (n : ℕ) then x (j + n - 63) else 0) = ∑ k : Fin 64, if (k : ℕ) ≤ j then x k else 0 := by
  rw [← Finset.sum_filter, ← Finset.sum_filter]
  refine Finset.sum_bij' (fun n _ => (⟨(j + n.val - 63) % 64, Nat.mod_lt _ (by norm_num)⟩ : Fin 64))
    (fun k _ => (⟨(63 + k.val - j) % 64, Nat.mod_lt _ (by norm_num)⟩ : Fin 64)) ?_ ?_ ?_ ?_ ?_ <;>
    simp only [Finset.mem_filter, Finset.mem_univ, true_and, Fin.ext_iff] <;> intro a ha <;> have := a.isLt
  · omega
  · omega
  · omega
  · omega
  · rw [Nat.mod_eq_of_lt (by omega)]

end Cert.Layer

end
-- ==== Proof.Mat.lean ====
/- Matrices read at natural-number coordinates: what each operation of the kernel does to such a reading. -/
module

public import Idealize.ShloMosaic.PureOps.Ideal
public import Idealize.ShloMosaic.Lib.Pointwise
public import Idealize.ShloMosaic.Lib.Pipeline.ValueKit

@[expose] public section

noncomputable section

namespace Cert.Layer

open Idealize.ShloMosaic

/-- The matrix `X` reads as `F`. -/
def Is2 {p q : ℕ} {φ : FTy} (X : FVec Ideal ⟨2, ![p, q]⟩ φ) (F : ℕ → ℕ → EReal) : Prop :=
  ∀ i, X i = F (i 0).val (i 1).val

theorem fin2_forall {P : Fin 2 → Prop} (h0 : P 0) (h1 : P 1) : ∀ a, P a
  | ⟨0, _⟩ => h0
  | ⟨1, _⟩ => h1
theorem idx2_ext {p q : ℕ} {i j : (⟨2, ![p, q]⟩ : Shape).Idx} (h0 : (i 0).val = (j 0).val) (h1 : (i 1).val = (j 1).val) : i = j :=
  funext (fin2_forall (Fin.ext h0) (Fin.ext h1))

theorem ite_unit {n x : ℕ} (h : x < n) : x = if n = 1 then 0 else x := by split <;> omega

namespace Is2

variable {p q : ℕ} {φ ψ : FTy} {X Y : FVec Ideal ⟨2, ![p, q]⟩ φ} {F G : ℕ → ℕ → EReal}

theorem congr (h : Is2 X F) (hF : ∀ a b, a < p → b < q → F a b = G a b) : Is2 X G :=
  fun i => (h i).trans (hF _ _ (i 0).isLt (i 1).isLt)
theorem mul (hX : Is2 X F) (hY : Is2 Y G) : Is2 (mulf X Y) fun a b => F a b * G a b :=
  fun i => (Ideal.mulf_def _ _).trans (by rw [hX i, hY i])
theorem add (hX : Is2 X F) (hY : Is2 Y G) : Is2 (addf X Y) fun a b => F a b + G a b :=
  fun i => (Ideal.addf_def _ _).trans (by rw [hX i, hY i])
theorem sub (hX : Is2 X F) (hY : Is2 Y G) : Is2 (subf X Y) fun a b => F a b - G a b :=
  fun i => (Ideal.subf_def _ _).trans (by rw [hX i, hY i])
theorem div (hX : Is2 X F) (hY : Is2 Y G) : Is2 (divf X Y) fun a b => Ideal.div (F a b) (G a b) :=
  fun i => (Ideal.divf_def _ _).trans (by rw [hX i, hY i])
theorem min (hX : Is2 X F) (hY : Is2 Y G) : Is2 (minimumf X Y) fun a b => Min.min (F a b) (G a b) :=
  fun i => (Ideal.minimumf_def _ _).trans (by rw [hX i, hY i])
theorem exp (hX : Is2 X F) : Is2 (Idealize.ShloMosaic.exp X) fun a b => Ideal.exp (F a b) :=
  fun i => congrArg Ideal.exp (hX i)
theorem rsqrt (hX : Is2 X F) : Is2 (Idealize.ShloMosaic.rsqrt X) fun a b => Ideal.rsqrt (F a b) :=
  fun i => congrArg Ideal.rsqrt (hX i)
theorem log1p (hX : Is2 X F) : Is2 (Idealize.ShloMosaic.log1p X) fun a b => Ideal.log1p (F a b) :=
  fun i => congrArg Ideal.log1p (hX i)
theorem erf (hX : Is2 X F) : Is2 (Idealize.ShloMosaic.erf X) fun a b => Ideal.erf (F a b) :=
  fun i => congrArg Ideal.erf (hX i)
theorem logistic (hX : Is2 X F) : Is2 (Idealize.ShloMosaic.logistic X) fun a b => Ideal.logistic (F a b) :=
  fun i => congrArg Ideal.logistic (hX i)
theorem abs (hX : Is2 X F) : Is2 (absf X) fun a b => max (F a b) (-(F a b)) :=
  fun i => congrArg (fun x : EReal => max x (-x)) (hX i)
theorem trunc (hX : Is2 X F) (h : ψ.bits < φ.bits) : Is2 (truncf ψ X h) F := hX
theorem ext (hX : Is2 X F) (h : φ.bits < ψ.bits) : Is2 (extf ψ X h) F := hX
theorem const (w : BitVec φ.bits) : Is2 (broadcast ⟨2, ![p, q]⟩ (Scalar.ofBits (F := Ideal) φ w)) fun _ _ => Ideal.ofBits φ w :=
  fun _ => rfl
theorem cast (hX : Is2 X F) (h) : Is2 (shapeCast ⟨2, ![p, q]⟩ X h) F := by rwa [shapeCast_self]

theorem slice {r s o₁ o₂ : ℕ} (hX : Is2 X F) (h : (⟨2, ![p, q]⟩ : Shape).Slices ![o₁, o₂] ⟨2, ![r, s]⟩) :
    Is2 (extractStridedSlice ⟨2, ![r, s]⟩ ![o₁, o₂] X h) fun a b => F (o₁ + a) (o₂ + b) := fun i => by
  have h0 := h.2 0; have h1 := h.2 1
  have i0 := (i 0).isLt; have i1 := (i 1).isLt
  rw [extractStridedSlice_apply _ X h i (ValueIdx.ix2 ⟨o₁ + (i 0).val, lt_of_lt_of_le (Nat.add_lt_add_left i0 _) h0⟩ ⟨o₂ + (i 1).val, lt_of_lt_of_le (Nat.add_lt_add_left i1 _) h1⟩)
    (fin2_forall rfl rfl)]
  exact hX _
theorem ld {r s o₁ o₂ : ℕ} {Z : (⟨2, ![p, q]⟩ : Shape).Idx → Elt Ideal .f32} (hX : Is2 (φ := .f32) Z F) (h) :
    Is2 (φ := .f32) (View.ld (Val := Elt Ideal) (e' := .f32) Z (Rect.unit (s := ⟨2, ![p, q]⟩) ![o₁, o₂] ![r, s] h)) fun a b => F (o₁ + a) (o₂ + b) := fun i => by
  rw [View.ld_apply, hX]
  congr 1 <;> exact Rect.idx_unit_val _ _ _ _ _
theorem ldb {r s o₁ o₂ : ℕ} {Z : (⟨2, ![p, q]⟩ : Shape).Idx → Elt Ideal .bf16} (hX : Is2 (φ := .bf16) Z F) (h) :
    Is2 (φ := .bf16) (View.ld (Val := Elt Ideal) (e' := .bf16) Z (Rect.unit (s := ⟨2, ![p, q]⟩) ![o₁, o₂] ![r, s] h)) fun a b => F (o₁ + a) (o₂ + b) := fun i => by
  rw [View.ld_apply, hX]
  congr 1 <;> exact Rect.idx_unit_val _ _ _ _ _

/-- The sums of the rows, as a column. -/
theorem rowSum {X : FVec Ideal ⟨2, ![p, q]⟩ .f32} (hX : Is2 X F) (h) (hφ) (hacc) (hc) :
    Is2 (shapeCast ⟨2, ![p, 1]⟩ (multiReduction .add [1] ⟨1, ![p]⟩ X 0x00000000#32 h hφ hacc) hc) fun a _ => ∑ k : Fin q, F a k := fun i => by
  refine (shapeCast_apply (s := ⟨1, ![p]⟩) (t := ⟨2, ![p, 1]⟩) _ _ i (ValueIdx.ix1 (i 0)) (by rw [Shape.rowMajor_val_one, Shape.rowMajor_val_two]; have h1 : (i 1).val < 1 := (i 1).isLt; show (i 0).val = (i 0).val * 1 + (i 1).val; omega)).trans ?_
  refine (Ideal.multiReduction_add_single X _ h hφ hacc _).trans (Finset.sum_congr rfl fun k _ => ?_)
  rw [hX]
  rfl
theorem bcol {c : FVec Ideal ⟨2, ![p, 1]⟩ φ} (hc : Is2 c F) (h) : Is2 (broadcastTo ⟨2, ![p, q]⟩ c h) fun a _ => F a 0 := fun i => by
  rw [broadcastTo_apply c h i (ValueIdx.ix2 (i 0) 0) (fin2_forall (ite_unit (i 0).isLt) rfl)]
  exact hc _
theorem brow {c : FVec Ideal ⟨2, ![1, q]⟩ φ} (hc : Is2 c F) (h) : Is2 (broadcastTo ⟨2, ![p, q]⟩ c h) fun _ b => F 0 b := fun i => by
  rw [broadcastTo_apply c h i (ValueIdx.ix2 0 (i 1)) (fin2_forall rfl (ite_unit (i 1).isLt))]
  exact hc _

theorem mm {sl sr : Shape} {a : Fin sl.rank} {φ₁ : FTy} (d : DotDims sl sr ⟨2, ![p, q]⟩) (hc : d.lhsContracting = [a]) {K : ℕ} (hK : sl.size a = K)
    (x : FVec Ideal sl φ₁) (y : FVec Ideal sr φ₁) (L : (⟨2, ![p, q]⟩ : Shape).Idx → Fin K → sl.Idx) (R : (⟨2, ![p, q]⟩ : Shape).Idx → Fin K → sr.Idx)
    (hL : ∀ j k, Shape.Idx.norm (d.lhsIdx j (d.contrIdx₁ hc hK k)) = L j k) (hR : ∀ j k, Shape.Idx.norm (d.rhsIdx j (d.contrIdx₁ hc hK k)) = R j k)
    (H : ℕ → ℕ → ℕ → EReal) (hH : ∀ j k, x (L j k) * y (R j k) = H (j 0).val (j 1).val k.val) :
    Is2 (matmul d none x y (constant ⟨2, ![p, q]⟩ .f32 0x00000000#32)) fun i j => ∑ k : Fin K, H i j k := fun j => by
  refine (Ideal.matmul_apply₁_of d hc hK x y _ j (L j) (R j) (hL j) (hR j)).trans ?_
  rw [show (constant ⟨2, ![p, q]⟩ .f32 0x00000000#32 : FVec Ideal ⟨2, ![p, q]⟩ .f32) j = 0 from Ideal.ofBits_zero_f32, zero_add]
  exact Finset.sum_congr rfl fun k _ => hH j k

theorem mmNN {K : ℕ} {φ₁ : FTy} (d : DotDims ⟨2, ![p, K]⟩ ⟨2, ![K, q]⟩ ⟨2, ![p, q]⟩) (hc : d.lhsContracting = [1])
    {x : FVec Ideal ⟨2, ![p, K]⟩ φ₁} {y : FVec Ideal ⟨2, ![K, q]⟩ φ₁}
    (hL : ∀ j k, Shape.Idx.norm (d.lhsIdx j (d.contrIdx₁ hc rfl k)) = ValueIdx.ix2 (n0 := p) (n1 := K) (j 0) k)
    (hR : ∀ j k, Shape.Idx.norm (d.rhsIdx j (d.contrIdx₁ hc rfl k)) = ValueIdx.ix2 (n0 := K) (n1 := q) k (j 1))
    (hx : Is2 x F) (hy : Is2 y G) :
    Is2 (matmul d none x y (constant ⟨2, ![p, q]⟩ .f32 0x00000000#32)) fun i j => ∑ k : Fin K, F i k * G k j :=
  mm (K := K) d hc rfl x y _ _ hL hR (fun i j k => F i k * G k j) fun _ _ => by rw [hx, hy]; rfl
theorem mmNT {K : ℕ} {φ₁ : FTy} (d : DotDims ⟨2, ![p, K]⟩ ⟨2, ![q, K]⟩ ⟨2, ![p, q]⟩) (hc : d.lhsContracting = [1])
    {x : FVec Ideal ⟨2, ![p, K]⟩ φ₁} {y : FVec Ideal ⟨2, ![q, K]⟩ φ₁}
    (hL : ∀ j k, Shape.Idx.norm (d.lhsIdx j (d.contrIdx₁ hc rfl k)) = ValueIdx.ix2 (n0 := p) (n1 := K) (j 0) k)
    (hR : ∀ j k, Shape.Idx.norm (d.rhsIdx j (d.contrIdx₁ hc rfl k)) = ValueIdx.ix2 (n0 := q) (n1 := K) (j 1) k)
    (hx : Is2 x F) (hy : Is2 y G) :
    Is2 (matmul d none x y (constant ⟨2, ![p, q]⟩ .f32 0x00000000#32)) fun i j => ∑ k : Fin K, F i k * G j k :=
  mm (K := K) d hc rfl x y _ _ hL hR (fun i j k => F i k * G j k) fun _ _ => by rw [hx, hy]; rfl
theorem mmTN {K : ℕ} {φ₁ : FTy} (d : DotDims ⟨2, ![K, p]⟩ ⟨2, ![K, q]⟩ ⟨2, ![p, q]⟩) (hc : d.lhsContracting = [0])
    {x : FVec Ideal ⟨2, ![K, p]⟩ φ₁} {y : FVec Ideal ⟨2, ![K, q]⟩ φ₁}
    (hL : ∀ j k, Shape.Idx.norm (d.lhsIdx j (d.contrIdx₁ hc rfl k)) = ValueIdx.ix2 (n0 := K) (n1 := p) k (j 0))
    (hR : ∀ j k, Shape.Idx.norm (d.rhsIdx j (d.contrIdx₁ hc rfl k)) = ValueIdx.ix2 (n0 := K) (n1 := q) k (j 1))
    (hx : Is2 x F) (hy : Is2 y G) :
    Is2 (matmul d none x y (constant ⟨2, ![p, q]⟩ .f32 0x00000000#32)) fun i j => ∑ k : Fin K, F k i * G k j :=
  mm (K := K) d hc rfl x y _ _ hL hR (fun i j k => F k i * G k j) fun _ _ => by rw [hx, hy]; rfl

/-- A matrix under a leading axis of one. -/
theorem squeeze {Z : FVec Ideal ⟨3, ![1, p, q]⟩ φ} (hZ : ∀ i, Z i = F (i 1).val (i 2).val) (h) : Is2 (shapeCast ⟨2, ![p, q]⟩ Z h) F := fun i => by
  refine (shapeCast_apply (s := ⟨3, ![1, p, q]⟩) (t := ⟨2, ![p, q]⟩) Z h i (ValueIdx.ix3 0 (i 0) (i 1)) ?_).trans (hZ _)
  rw [Shape.rowMajor_val_three, Shape.rowMajor_val_two]
  show (0 * p + (i 0).val) * q + (i 1).val = (i 0).val * q + (i 1).val
  rw [Nat.zero_mul, Nat.zero_add]
theorem unsqueeze (hX : Is2 X F) (h) (i : (⟨3, ![1, p, q]⟩ : Shape).Idx) : shapeCast ⟨3, ![1, p, q]⟩ X h i = F (i 1).val (i 2).val := by
  refine (shapeCast_apply (s := ⟨2, ![p, q]⟩) (t := ⟨3, ![1, p, q]⟩) X h i (ValueIdx.ix2 (i 1) (i 2)) ?_).trans (hX _)
  rw [Shape.rowMajor_val_three, Shape.rowMajor_val_two]
  have h0 : (i 0).val = 0 := Nat.lt_one_iff.mp (i 0).isLt
  show (i 1).val * q + (i 2).val = ((i 0).val * p + (i 1).val) * q + (i 2).val
  rw [h0, Nat.zero_mul, Nat.zero_add]

/-- Four matrices of 256 columns side by side. -/
theorem concat4 {X₀ X₁ X₂ X₃ : FVec Ideal ⟨2, ![p, 256]⟩ φ} (h0 : Is2 X₀ F) (h1 : Is2 X₁ fun a b => F a (256 + b)) (h2 : Is2 X₂ fun a b => F a (512 + b))
    (h3 : Is2 X₃ fun a b => F a (768 + b)) (h) :
    Is2 (concatenate ⟨2, ![p, 1024]⟩ 1 [⟨⟨2, ![p, 256]⟩, X₀⟩, ⟨⟨2, ![p, 256]⟩, X₁⟩, ⟨⟨2, ![p, 256]⟩, X₂⟩, ⟨⟨2, ![p, 256]⟩, X₃⟩] h) F := fun j => by
  have hj : (j 1).val < 1024 := (j 1).isLt
  have key (k : ℕ) (hk : k < 4) (pre : ℕ) (Z : FVec Ideal ⟨2, ![p, 256]⟩ φ) (hlo : pre ≤ (j 1).val) (hhi : (j 1).val < pre + 256)
      (hZ : Is2 Z fun a b => F a (pre + b))
      (hx : ([⟨⟨2, ![p, 256]⟩, X₀⟩, ⟨⟨2, ![p, 256]⟩, X₁⟩, ⟨⟨2, ![p, 256]⟩, X₂⟩, ⟨⟨2, ![p, 256]⟩, X₃⟩] : List ((s : Shape) × (s.Idx → Ideal φ)))[k]'hk = ⟨_, Z⟩)
      (hpre : ((([⟨⟨2, ![p, 256]⟩, X₀⟩, ⟨⟨2, ![p, 256]⟩, X₁⟩, ⟨⟨2, ![p, 256]⟩, X₂⟩, ⟨⟨2, ![p, 256]⟩, X₃⟩] : List ((s : Shape) × (s.Idx → Ideal φ))).take k).map (·.1)
        |>.map fun s => if h : s.rank = (⟨2, ![p, 1024]⟩ : Shape).rank then s.size ((1 : Fin 2).cast h.symm) else 0).sum = pre) :
      concatenate ⟨2, ![p, 1024]⟩ 1 [⟨⟨2, ![p, 256]⟩, X₀⟩, ⟨⟨2, ![p, 256]⟩, X₁⟩, ⟨⟨2, ![p, 256]⟩, X₂⟩, ⟨⟨2, ![p, 256]⟩, X₃⟩] h j = F (j 0).val (j 1).val := by
    rw [concatenate_apply_piece (t := ⟨2, ![p, 1024]⟩) 1 _ h j k hk ⟨2, ![p, 256]⟩ Z hx rfl pre hpre (ValueIdx.ix2 (j 0) ⟨(j 1).val - pre, by omega⟩)
      (fin2_forall (fun _ => rfl) (fun hb => absurd rfl hb)) (by show pre + ((j 1).val - pre) = _; omega), hZ]
    show F (j 0).val (pre + ((j 1).val - pre)) = _
    rw [Nat.add_sub_cancel' hlo]
  by_cases c1 : (j 1).val < 256
  · exact key 0 (by omega) 0 X₀ (by omega) (by omega) (by simpa using h0) rfl rfl
  by_cases c2 : (j 1).val < 512
  · exact key 1 (by omega) 256 X₁ (by omega) (by omega) h1 rfl rfl
  by_cases c3 : (j 1).val < 768
  · exact key 2 (by omega) 512 X₂ (by omega) (by omega) h2 rfl rfl
  · exact key 3 (by omega) 768 X₃ (by omega) (by omega) h3 rfl rfl

end Is2

end Cert.Layer

end
-- ==== Proof.Mask.lean ====
/- Which entries the kernel's masks let through. -/
module

public import proofs.«01_k».proof.Proof.Block
public import Idealize.ShloMosaic.Lib.WordCmp
public import Idealize.ShloMosaic.Lib.Pointwise

@[expose] public section

set_option maxRecDepth 16384

noncomputable section

namespace Cert.Layer

open Idealize.ShloMosaic Idealize.ShloMosaic.WordCmp Cert.KernelIdeal Cert.KernelIdeal.Gen

theorem ofBool_ite (p : Prop) [Decidable p] : BitVec.ofBool (decide p) = if p then 1#1 else 0#1 := by
  by_cases h : p <;> simp [h]

/-- The words of two numbers compared. -/
theorem sle_word {a b : ℕ} (ha : a < 128) (hb : b < 128) :
    IntOp.cmpi .sle (BitVec.ofNat 32 b) (BitVec.ofNat 32 a) = if b ≤ a then 1#1 else 0#1 :=
  (cmpi_sle_ofNat (w := 32) (by omega) (by omega)).trans (ofBool_ite _)

/-- The row's and the column's number as a word. -/
theorem iota_row {p q : ℕ} (h : (⟨2, ![p, q]⟩ : Shape).Iotas .tc 32 [0]) (a : Fin p) (b : Fin q) :
    iota .tc ⟨2, ![p, q]⟩ 32 [0] h (ValueIdx.ix2 a b) = BitVec.ofNat 32 a.val :=
  (iota_at .tc [0] h _).trans (congrArg (BitVec.ofNat 32) (by show 0 * p + a.val = a.val; omega))
theorem iota_col {p q : ℕ} (h : (⟨2, ![p, q]⟩ : Shape).Iotas .tc 32 [1]) (a : Fin p) (b : Fin q) :
    iota .tc ⟨2, ![p, q]⟩ 32 [1] h (ValueIdx.ix2 a b) = BitVec.ofNat 32 b.val :=
  (iota_at .tc [1] h _).trans (congrArg (BitVec.ofNat 32) (by show 0 * q + b.val = b.val; omega))

namespace Blk

/-- Which rows of 128 a row of them sums. -/
def triMask : IVec S128x128 1 := andi (k0_pay12 row128 col128) (cmpi .eq (k0_pay13 col128) (k0_pay13 row128))

theorem lower_ix {p q : ℕ} (h0 : (⟨2, ![p, q]⟩ : Shape).Iotas .tc 32 [0]) (h1 : (⟨2, ![p, q]⟩ : Shape).Iotas .tc 32 [1]) (hp : p ≤ 128) (hq : q ≤ 128)
    (a : Fin p) (b : Fin q) :
    cmpi .sle (iota .tc ⟨2, ![p, q]⟩ 32 [1] h1) (iota .tc ⟨2, ![p, q]⟩ 32 [0] h0) (ValueIdx.ix2 a b) = if b.val ≤ a.val then 1#1 else 0#1 := by
  rw [cmpi_at, iota_row, iota_col]
  exact sle_word (lt_of_lt_of_le a.isLt hp) (lt_of_lt_of_le b.isLt hq)
theorem mask64_ix (a b : Fin 64) : k0_pay21 (ValueIdx.ix2 a b) = if b.val ≤ a.val then 1#1 else 0#1 :=
  lower_ix iota_S64x64_d0_w32 iota_S64x64_d1_w32 (by omega) (by omega) a b
theorem causal_ix (a b : Fin 128) : causal (ValueIdx.ix2 a b) = if b.val ≤ a.val then 1#1 else 0#1 :=
  lower_ix iota_S128x128_d0_w32 iota_S128x128_d1_w32 le_rfl le_rfl a b

/-- The word of a number below 128 divided by 64, as the kernel spells it. -/
theorem div64 : ∀ n : Fin 128, k0_pay13 (fun _ => BitVec.ofNat 32 n.val) (ValueIdx.ix2 0 0) = BitVec.ofNat 32 (n.val / 64) := by decide +kernel
theorem div64_at (x : IVec S128x128 32) (i : S128x128.Idx) (n : Fin 128) (h : x i = BitVec.ofNat 32 n.val) : k0_pay13 x i = BitVec.ofNat 32 (n.val / 64) := by
  rw [← div64 n, ← h]
  rfl
theorem triMask_ix (a b : Fin 128) : triMask (ValueIdx.ix2 a b) = if b.val ≤ a.val ∧ b.val / 64 = a.val / 64 then 1#1 else 0#1 := by
  rw [triMask, andi_at, cmpi_at, div64_at col128 _ b (iota_col iota_S128x128_d1_w32 a b), div64_at row128 _ a (iota_row iota_S128x128_d0_w32 a b),
    cmpi_eq_ofNat (w := 32) (by omega) (by omega)]
  have e : k0_pay12 row128 col128 (ValueIdx.ix2 a b) = if b.val ≤ a.val then 1#1 else 0#1 := causal_ix a b
  rw [e, ← ofBool_ite, andi_ofBool, ← Bool.decide_and, ofBool_ite]

end Blk

end Cert.Layer

end
-- ==== Proof.Val1.lean ====
/- The values of a grid point's projections and running decays, when what it reads is the layer's. -/
module

public import proofs.«01_k».proof.Proof.Block
public import proofs.«01_k».proof.Proof.Layer
public import proofs.«01_k».proof.Proof.Pure
public import proofs.«01_k».proof.Proof.Mat
public import proofs.«01_k».proof.Proof.Mask

@[expose] public section

set_option maxRecDepth 16384

noncomputable section

namespace Cert.Layer

open Idealize.ShloMosaic Cert.KernelIdeal Cert.KernelIdeal.Gen

/-- What a point reads is the layer's, at rows `n * 512` on of batch `b`. -/
structure Reads (B : Blk) (A : Args) (b n : ℕ) : Prop where
  x : ∀ i, B.x i = A.x b (n * 512 + (i 1).val) (i 2).val
  pg : Is2 B.pg fun _ e => A.pg e
  win : Is2 (p := 1024) (q := 6144) B.win A.win
  wl : Is2 B.wl fun d r => if r < 16 then A.win d (6144 + r) else 0
  wa : Is2 B.wa fun r e => if r < 16 then A.wa r e else 0
  ba : Is2 B.ba fun _ e => A.ba e
  lg : Is2 B.lg fun _ e => A.lg e
  lb : Is2 B.lb fun _ e => A.lb e
  ws : ∀ i, B.ws i = A.ws (i 0).val (i 1).val (i 2).val
  bs : Is2 (p := 128) (q := 1024) B.bs fun t e => A.bs (e / 128) t
  bn : Is2 (p := 1) (q := 1024) B.bn fun _ e => A.bn e
  wo : Is2 (p := 2048) (q := 1024) B.wo A.wo
  og : Is2 B.og fun _ e => A.og e
  st : ∀ i, B.st i = A.st b (i 2).val ((i 0).val * 256 + (i 1).val) (n * 8)

/-- A sum whose terms vanish from 16 on. -/
theorem sum_pad (f g : ℕ → EReal) :
    (∑ k : Fin 128, (if (k : ℕ) < 16 then f k else 0) * (if (k : ℕ) < 16 then g k else 0)) = ∑ r : Fin 16, f r * g r := by
  rw [show (128 : ℕ) = 16 + 112 from rfl, Fin.sum_univ_add]
  have h2 : (∑ i : Fin 112, (if ((Fin.natAdd 16 i : Fin (16 + 112)) : ℕ) < 16 then f (Fin.natAdd 16 i : Fin (16 + 112)) else 0)
      * (if ((Fin.natAdd 16 i : Fin (16 + 112)) : ℕ) < 16 then g (Fin.natAdd 16 i : Fin (16 + 112)) else 0)) = 0 :=
    Finset.sum_eq_zero fun i _ => by rw [if_neg (by simp), zero_mul]
  rw [h2, add_zero]
  exact Finset.sum_congr rfl fun i _ => by simp [i.isLt]

/-- The rows of 128 that a row of them sums: those of its own 64 up to it. -/
theorem tri_sum (f : ℕ → EReal) (a : ℕ) (ha : a < 128) :
    (∑ k : Fin 128, (if (k : ℕ) ≤ a ∧ (k : ℕ) / 64 = a / 64 then (1 : EReal) else 0) * f k)
      = ∑ k : Fin 64, if (k : ℕ) ≤ a % 64 then f (a / 64 * 64 + k) else 0 := by
  rw [show (128 : ℕ) = 64 + 64 from rfl, Fin.sum_univ_add]
  simp only [Fin.val_castAdd, Fin.val_natAdd]
  rcases Nat.lt_or_ge a 64 with h | h
  · rw [Finset.sum_eq_zero (s := Finset.univ) (f := fun x : Fin 64 => (if 64 + (x : ℕ) ≤ a ∧ (64 + (x : ℕ)) / 64 = a / 64 then (1 : EReal) else 0) * f (64 + x))
      (fun i _ => by rw [if_neg (by omega), zero_mul]), add_zero]
    refine Finset.sum_congr rfl fun k _ => ?_
    have hk := k.isLt
    rw [show a / 64 * 64 + (k : ℕ) = k by omega, show a % 64 = a by omega]
    by_cases hc : (k : ℕ) ≤ a
    · rw [if_pos ⟨hc, by omega⟩, if_pos hc, one_mul]
    · rw [if_neg (fun h => hc h.1), if_neg hc, zero_mul]
  · rw [Finset.sum_eq_zero (s := Finset.univ) (f := fun x : Fin 64 => (if (x : ℕ) ≤ a ∧ (x : ℕ) / 64 = a / 64 then (1 : EReal) else 0) * f x)
      (fun i _ => by rw [if_neg (by omega), zero_mul]), zero_add]
    refine Finset.sum_congr rfl fun k _ => ?_
    have hk := k.isLt
    rw [show a / 64 * 64 + (k : ℕ) = 64 + k by omega]
    by_cases hc : 64 + (k : ℕ) ≤ a
    · rw [if_pos ⟨hc, by omega⟩, if_pos (by omega), one_mul]
    · rw [if_neg (fun h => hc h.1), if_neg (by omega), zero_mul]

namespace Blk

theorem tri_is : Is2 tri fun a k => if k ≤ a ∧ k / 64 = a / 64 then (1 : EReal) else 0 := fun i => by
  have e : tri = truncf .bf16 (select triMask (broadcast S128x128 (Scalar.ofBits (F := Ideal) .f32 0x3F800000#32))
    (broadcast S128x128 (Scalar.ofBits (F := Ideal) .f32 0x00000000#32))) bitsLt_bf16_f32 := rfl
  rw [e]
  show (if triMask i = 1#1 then Ideal.ofBits .f32 0x3F800000#32 else Ideal.ofBits .f32 0x00000000#32) = _
  have ht : triMask i = if (i 1).val ≤ (i 0).val ∧ (i 1).val / 64 = (i 0).val / 64 then 1#1 else 0#1 :=
    (congrArg triMask (idx2_ext rfl rfl : i = ValueIdx.ix2 (i 0) (i 1))).trans (triMask_ix _ _)
  rw [ht, Ideal.ofBits_one_f32, Ideal.ofBits_zero_f32]
  show _ = if (i 1).val ≤ (i 0).val ∧ (i 1).val / 64 = (i 0).val / 64 then (1 : EReal) else 0
  by_cases h : (i 1).val ≤ (i 0).val ∧ (i 1).val / 64 = (i 0).val / 64
  · rw [if_pos h, if_pos h, if_pos rfl]
  · rw [if_neg h, if_neg h, if_neg (by decide)]

end Blk

variable {B : Blk} {A : Args} {b n : ℕ} (H : Reads B A b n)
include H

namespace Reads

theorem hb : Is2 B.hb fun a e => A.h b (n * 512 + a) e := by
  have hx : Is2 (shapeCast S512x1024 B.x shapeCasts_S1x512x1024_S512x1024 : FVec Ideal S512x1024 .f32) fun a e => A.x b (n * 512 + a) e := Is2.squeeze (F := fun a e => A.x b (n * 512 + a) e) H.x _
  exact (((hx.mul (((((hx.mul hx).rowSum _ _ _ _).div (Is2.const _)).add (Is2.const _)).rsqrt.bcol _)).mul ((H.pg.cast _).brow _)).trunc _)

theorem dot (o : ℕ) (h : o + 256 ≤ 6144) : Is2 (dotH B.hb (B.cols o h)) fun a e => A.z b (n * 512 + a) (o + e) :=
  (Is2.mmNN _ rfl (fun _ _ => idx2_ext rfl rfl) (fun _ _ => idx2_ext rfl rfl) H.hb ((H.win.ldb _).cast _)).congr fun a e _ _ => by
    simp only [Nat.zero_add]; rfl

theorem q : Is2 B.q fun a e => A.q b (n * 512 + a) e :=
  ((Is2.mmNN _ rfl (fun _ _ => idx2_ext rfl rfl) (fun _ _ => idx2_ext rfl rfl) H.hb ((H.win.ldb _).cast _)).mul (Is2.const _)).congr fun a e _ _ => by
    simp only [Nat.zero_add]; rfl
theorem k : Is2 B.k fun a e => A.k b (n * 512 + a) e :=
  (Is2.mmNN _ rfl (fun _ _ => idx2_ext rfl rfl) (fun _ _ => idx2_ext rfl rfl) H.hb ((H.win.ldb _).cast _)).congr fun a e _ _ => by
    simp only [Nat.zero_add]; rfl
theorem lr : Is2 B.lr fun a r => if r < 16 then A.z b (n * 512 + a) (6144 + r) else 0 :=
  ((Is2.mmNN _ rfl (fun _ _ => idx2_ext rfl rfl) (fun _ _ => idx2_ext rfl rfl) H.hb (H.wl.cast _)).trunc _).congr fun a r _ _ => by
    by_cases h : r < 16
    · simp only [if_pos h]; rfl
    · simp only [if_neg h, mul_zero]; exact Finset.sum_const_zero

omit H in
theorem lsig16 {x : FVec Ideal S512x512 .f32} {F : ℕ → ℕ → EReal} (h : Is2 x F) :
    Is2 (mulf (subf (minimumf x (broadcast S512x512 (Scalar.ofBits (F := Ideal) .f32 0x00000000#32)))
      (log1p (exp (subf (broadcast S512x512 (Scalar.ofBits (F := Ideal) .f32 0x00000000#32)) (absf x)))))
      (broadcast S512x512 (Scalar.ofBits (F := Ideal) .f32 0x3D800000#32)))
      fun a e => Ideal.div (lsig (F a e)) (Ideal.ofBits .f32 0x41800000#32) := by
  have h1 := h.min (Is2.const (φ := .f32) 0x00000000#32)
  have h2 := ((Is2.const (p := 512) (q := 512) (φ := .f32) 0x00000000#32).sub h.abs).exp.log1p
  have h3 := (h1.sub h2).mul (Is2.const (φ := .f32) 0x3D800000#32)
  refine h3.congr fun a e _ _ => ?_
  generalize F a e = y
  rw [sixteenth_mul, Ideal.ofBits_zero_f32, zero_sub, ← lsig_eq]
  rfl
theorem la : Is2 (k0_pay9 B.lr B.wa B.ba) fun a e => A.la b (n * 512 + a) e :=
  (lsig16 ((Is2.mmNN dot_S512x128_S128x512_S512x512_1_0_0_1_n_n rfl (fun _ _ => idx2_ext rfl rfl) (fun _ _ => idx2_ext rfl rfl) H.lr (H.wa.cast shapeCasts_S128x512_S128x512)).add ((H.ba.cast shapeCasts_S1x512_S1x512).brow broadcasts_S1x512_S512x512))).congr fun a e _ _ => by
    rw [sum_pad (fun r => A.z b (n * 512 + a) (6144 + r)) (fun r => A.wa r e)]
    rfl

omit H in
theorem la_nonpos (A : Args) (b s e : ℕ) : A.la b s e ≤ 0 := div16_nonpos (lsig_nonpos _)

theorem hi : Is2 B.hi fun a e => A.la b (n * 512 + a) e := H.la
theorem lo : Is2 B.lo fun a e => A.la b (n * 512 + a) e - A.la b (n * 512 + a) e := H.la.sub H.la

theorem decay (r : Fin 4) : Is2 (decay Blk.tri B.hi B.lo r) fun a e => A.cum b (n * 512 + r.val * 128 + a) e := by
  refine ((Is2.mmNN _ rfl (fun _ _ => idx2_ext rfl rfl) (fun _ _ => idx2_ext rfl rfl) Blk.tri_is (H.hi.slice _)).add
    (Is2.mmNN _ rfl (fun _ _ => idx2_ext rfl rfl) (fun _ _ => idx2_ext rfl rfl) Blk.tri_is (H.lo.slice _))).congr fun a e ha _ => ?_
  rw [tri_sum (fun k => A.la b (n * 512 + (r.val * 128 + k)) (0 + e)) a ha,
    tri_sum (fun k => A.la b (n * 512 + (r.val * 128 + k)) (0 + e) - A.la b (n * 512 + (r.val * 128 + k)) (0 + e)) a ha]
  have key := sum_add_sum_sub (n := 64) (fun k => if (k : ℕ) ≤ a % 64 then A.la b (n * 512 + (r.val * 128 + (a / 64 * 64 + k))) (0 + e) else 0)
    (fun k => by split; exacts [la_nonpos .., le_rfl])
  rw [Args.cum]
  refine ((congrArg (_ + ·) (Finset.sum_congr rfl fun k _ => ?_)).trans key).trans (Finset.sum_congr rfl fun k _ => ?_)
  · split; exacts [rfl, (sub_zero 0).symm]
  · rw [show (n * 512 + r.val * 128 + a) % 64 = a % 64 by omega, Nat.zero_add,
      show (n * 512 + r.val * 128 + a) / 64 * 64 + (k : ℕ) = n * 512 + (r.val * 128 + (a / 64 * 64 + k)) by omega]

theorem bAt (c : Fin 8) (hd : Fin 4) : Is2 (bAt Blk.tri B.hi B.lo c hd) fun a d => A.cum b ((n * 8 + c.val) * 64 + a) (hd.val * 128 + d) :=
  ((H.decay _).slice _).congr fun a d _ _ => by
    dsimp only
    rw [show n * 512 + c.val / 2 * 128 + (c.val % 2 * 64 + a) = (n * 8 + c.val) * 64 + a by omega]

theorem v (hd : Fin 4) : Is2 (B.v hd) fun a e => A.v b (n * 512 + a) (hd.val * 256 + e) :=
  ((H.dot _ _).trunc bitsLt_bf16_f32).congr fun a e _ _ => by rw [Args.v, Nat.add_assoc]
theorem gb (hd : Fin 4) : Is2 (B.gb hd) fun a e => silu (A.z b (n * 512 + a) (5120 + (hd.val * 256 + e))) :=
  ((H.dot _ _).mul (H.dot _ _).logistic).congr fun a e _ _ => by rw [Nat.add_assoc]; rfl
omit H in
theorem gelu_is {w : FVec Ideal S1024x256 .bf16} {F : ℕ → ℕ → EReal} (h : Is2 (dotH B.hb w) F) : Is2 (geluH B.hb w) fun a e => gelu (F a e) :=
  (((Is2.const _).mul h).mul ((Is2.const _).add (h.mul (Is2.const _)).erf)).congr fun _ _ _ _ => gelu_eq _
theorem ga (hd : Fin 4) : Is2 (B.ga hd) fun a e => A.va b (n * 512 + a) (hd.val * 256 + e) :=
  (gelu_is (H.dot _ _)).congr fun a e _ _ => by rw [Args.va, Nat.add_assoc]
theorem ug (hd : Fin 4) : Is2 (B.ug hd) fun a e =>
    gelu (A.z b (n * 512 + a) (hd.val * 256 + e)) * silu (A.z b (n * 512 + a) (2048 + (hd.val * 256 + e))) :=
  ((gelu_is (H.dot _ _)).mul ((H.dot _ _).mul (H.dot _ _).logistic)).congr fun a e _ _ => by rw [Nat.add_assoc]; rfl
theorem bnH (hd : Fin 4) : Is2 (B.bnH hd) fun _ e => A.bn (hd.val * 256 + e) := H.bn.ld _
theorem st0 (hd : Fin 4) : Is2 (B.st0 hd) fun e d => A.st b d (hd.val * 256 + e) (n * 8) :=
  Is2.squeeze (F := fun e d => A.st b d (hd.val * 256 + e) (n * 8)) (fun i => by
    have h0 : (i 0).val = 0 := Nat.lt_one_iff.mp (i 0).isLt
    rw [View.ld_apply, H.st]
    simp only [Rect.idx_unit_val]
    show A.st b (0 + (i 2).val) ((hd.val + (i 0).val) * 256 + (0 + (i 1).val)) _ = _
    rw [h0, Nat.add_zero, Nat.zero_add, Nat.zero_add]) _

end Reads

end Cert.Layer

end
-- ==== Proof.Windows.lean ====
/- The arrays the host prepares for the kernel, and what a grid point reads of them. -/
module

public import proofs.«01_k».proof.Proof.Piece
public import proofs.«01_k».proof.Proof.Val1
public import Idealize.ShloMosaic.Lib.KernelVsHost

@[expose] public section

set_option maxRecDepth 16384

noncomputable section

namespace Cert.Layer

open Idealize.ShloMosaic Idealize.ShloMosaic.Pipeline Idealize.SL Idealize.SL.Sem Cert.KernelIdeal Cert.KernelIdeal.Gen Cert.KernelIdeal.Value
open Idealize.ShloMosaic.TcCoe

/-- The blocks of the windows at each grid point. -/
theorem idx : ∀ t : Fin cfg0.N, win0_0.index t = ![t.val / 4, t.val % 4, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0, 0]
    ∧ win0_9.index t = ![0, 0] ∧ win0_10.index t = ![0, 0] ∧ win0_11.index t = ![0, 0] ∧ win0_12.index t = ![0, 0] :=
  (by decide +kernel : ∀ t : Fin grid0.N, _)

/-- An array padded with zeros at its high ends reads as the array, zero beyond it. -/
theorem pad_rd2 {p q p' q' : ℕ} (hi : Fin 2 → ℕ) (x : (⟨2, ![p, q]⟩ : Shape).Idx → EReal) {u : Shape} (v : u.Idx → EReal)
    (h : (⟨2, ![p, q]⟩ : Shape).Pads (![0, 0] : Fin 2 → ℕ) hi (![0, 0] : Fin 2 → ℕ) ⟨2, ![p', q']⟩) (hu : 0 < u.numel) (hv : ∀ k, v k = 0)
    (i : (⟨2, ![p', q']⟩ : Shape).Idx) :
    pad (⟨2, ![p', q']⟩ : Shape) (![0, 0] : Fin 2 → ℕ) hi (![0, 0] : Fin 2 → ℕ) x v h hu i = rd2 x (i 0).val (i 1).val := by
  rw [rd2]
  split
  case isTrue hin =>
    refine pad_apply_of_inside _ _ _ x v h hu i _ (fin2_forall ?_ ?_)
    · show (i 0).val = 0 + (i 0).val * (0 + 1)
      omega
    · show (i 1).val = 0 + (i 1).val * (0 + 1)
      omega
  case isFalse hin =>
    rcases Nat.lt_or_ge (i 0).val p with h0 | h0
    · have h1 : q ≤ (i 1).val := by
        rcases Nat.lt_or_ge (i 1).val q with h1 | h1
        · exact absurd ⟨h0, h1⟩ hin
        · exact h1
      rw [pad_apply_of_not_inside _ _ _ x v h hu i 1, hv]
      show ¬ (0 ≤ (i 1).val ∧ ((i 1).val - 0) % (0 + 1) = 0 ∧ ((i 1).val - 0) / (0 + 1) < q)
      omega
    · rw [pad_apply_of_not_inside _ _ _ x v h hu i 0, hv]
      show ¬ (0 ≤ (i 0).val ∧ ((i 0).val - 0) % (0 + 1) = 0 ∧ ((i 0).val - 0) / (0 + 1) < p)
      omega

variable (m : (ℓ : Loc nD τ sig) → Buf (Elt Ideal) ℓ) (c : Dev nD) (t : Fin cfg0.N)

/-- The arguments a core's arrays hold. -/
def argsAt : Args :=
  args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

theorem read_0 (i : S1x512x1024.Idx) : (iblk m c 0 t : FVec Ideal S1x512x1024 .f32) i
    = (argsAt m c).x (t.val / 4) (t.val % 4 * 512 + (i 1).val) (i 2).val := by
  show V m c main_arg0 (((cfg0.win 0).blk t).view.emb i) = _
  rw [V_main_arg0]
  refine rd3_eq _ _ ?_ ?_ ?_
  all_goals blk_simp [idx t]

/-! The prepared arrays. -/

theorem host_21 (i : S1x1024.Idx) : (V m c main_v21 : FVec Ideal S1x1024 .f32) i = (argsAt m c).pg (i 1).val := by
  simp only [V, hostOps0, hostOps0_1, hostOps0_2, hostOps0_3, hostOps0_4, List.flatten_cons, List.flatten_nil, List.append_nil, List.cons_append, List.nil_append]
  entry_read
  pointwise
  exact rd2_eq _ _ (Nat.lt_one_iff.mp (i 0).isLt) rfl
theorem host_12 (i : S1024x6144.Idx) : (V m c main_v12 : FVec Ideal S1024x6144 .bf16) i = (argsAt m c).win (i 0).val (i 1).val := by
  simp only [V, hostOps0, hostOps0_1, hostOps0_2, hostOps0_3, hostOps0_4, List.flatten_cons, List.flatten_nil, List.append_nil, List.cons_append, List.nil_append]
  entry_read
  pointwise
  exact rd3_eq _ _ rfl rfl rfl
theorem host_15 (i : S1024x128.Idx) : (V m c main_v15 : FVec Ideal S1024x128 .bf16) i = if (i 1).val < 16 then (argsAt m c).win (i 0).val (6144 + (i 1).val) else 0 := by
  simp only [V, hostOps0, hostOps0_1, hostOps0_2, hostOps0_3, hostOps0_4, List.flatten_cons, List.flatten_nil, List.append_nil, List.cons_append, List.nil_append]
  entry_read
  refine (pad_rd2 (p := 1024) (q := 16) ![0, 112] _ _ pads_S1024x16_S1024x128_000_01120 h_S_ (fun _ => sitofp_zero (φ := .f32)) i).trans ?_
  rw [rd2]
  split
  case isTrue h =>
    rw [if_pos h.2]
    pointwise
    exact rd3_eq _ _ rfl (Nat.zero_add (i 0).val) rfl
  case isFalse h =>
    rw [if_neg fun h1 => h ⟨(i 0).isLt, h1⟩]
theorem host_17 (i : S128x512.Idx) : (V m c main_v17 : FVec Ideal S128x512 .bf16) i = if (i 0).val < 16 then (argsAt m c).wa (i 0).val (i 1).val else 0 := by
  simp only [V, hostOps0, hostOps0_1, hostOps0_2, hostOps0_3, hostOps0_4, List.flatten_cons, List.flatten_nil, List.append_nil, List.cons_append, List.nil_append]
  entry_read
  refine (pad_rd2 (p := 16) (q := 512) ![112, 0] _ _ pads_S16x512_S128x512_01120_000 h_S_ (fun _ => sitofp_zero (φ := .f32)) i).trans ?_
  rw [rd2]
  split
  case isTrue h =>
    rw [if_pos h.1]
    pointwise
    exact rd3_eq _ _ rfl rfl rfl
  case isFalse h =>
    rw [if_neg fun h1 => h ⟨h1, (i 1).isLt⟩]
theorem host_22 (i : S1x512.Idx) : (V m c main_v22 : FVec Ideal S1x512 .f32) i = (argsAt m c).ba (i 1).val := by
  simp only [V, hostOps0, hostOps0_1, hostOps0_2, hostOps0_3, hostOps0_4, List.flatten_cons, List.flatten_nil, List.append_nil, List.cons_append, List.nil_append]
  entry_read
  pointwise
  exact rd2_eq _ _ (Nat.lt_one_iff.mp (i 0).isLt) rfl
theorem host_23 (i : S1x1024.Idx) : (V m c main_v23 : FVec Ideal S1x1024 .f32) i = (argsAt m c).lg (i 1).val := by
  simp only [V, hostOps0, hostOps0_1, hostOps0_2, hostOps0_3, hostOps0_4, List.flatten_cons, List.flatten_nil, List.append_nil, List.cons_append, List.nil_append]
  entry_read
  pointwise
  exact rd2_eq _ _ (Nat.lt_one_iff.mp (i 0).isLt) rfl
theorem host_24 (i : S1x1024.Idx) : (V m c main_v24 : FVec Ideal S1x1024 .f32) i = (argsAt m c).lb (i 1).val := by
  simp only [V, hostOps0, hostOps0_1, hostOps0_2, hostOps0_3, hostOps0_4, List.flatten_cons, List.flatten_nil, List.append_nil, List.cons_append, List.nil_append]
  entry_read
  pointwise
  exact rd2_eq _ _ (Nat.lt_one_iff.mp (i 0).isLt) rfl
theorem host_6 (i : S8x128x128.Idx) : (V m c main_v6 : FVec Ideal S8x128x128 .f32) i = (argsAt m c).ws (i 0).val (i 1).val (i 2).val := by
  simp only [V, hostOps0, hostOps0_1, hostOps0_2, hostOps0_3, hostOps0_4, List.flatten_cons, List.flatten_nil, List.append_nil, List.cons_append, List.nil_append]
  entry_read
  pointwise
  exact rd4_eq _ _ rfl rfl rfl rfl
theorem host_20 (i : S128x1024.Idx) : (V m c main_v20 : FVec Ideal S128x1024 .f32) i = (argsAt m c).bs ((i 1).val / 128) (i 0).val := by
  simp only [V, hostOps0, hostOps0_1, hostOps0_2, hostOps0_3, hostOps0_4, List.flatten_cons, List.flatten_nil, List.append_nil, List.cons_append, List.nil_append]
  entry_read
  pointwise
  exact rd3_eq _ _ rfl rfl rfl
theorem host_25 (i : S1x1024.Idx) : (V m c main_v25 : FVec Ideal S1x1024 .f32) i = (argsAt m c).bn (i 1).val := by
  simp only [V, hostOps0, hostOps0_1, hostOps0_2, hostOps0_3, hostOps0_4, List.flatten_cons, List.flatten_nil, List.append_nil, List.cons_append, List.nil_append]
  entry_read
  pointwise
  exact rd2_eq _ _ (Nat.lt_one_iff.mp (i 0).isLt) rfl
theorem host_26 (i : S2048x1024.Idx) : (V m c main_v26 : FVec Ideal S2048x1024 .bf16) i = (argsAt m c).wo (i 0).val (i 1).val := by
  simp only [V, hostOps0, hostOps0_1, hostOps0_2, hostOps0_3, hostOps0_4, List.flatten_cons, List.flatten_nil, List.append_nil, List.cons_append, List.nil_append]
  entry_read
  pointwise
  exact rd3_eq _ _ rfl rfl rfl
theorem host_27 (i : S1x1024.Idx) : (V m c main_v27 : FVec Ideal S1x1024 .f32) i = (argsAt m c).og (i 1).val := by
  simp only [V, hostOps0, hostOps0_1, hostOps0_2, hostOps0_3, hostOps0_4, List.flatten_cons, List.flatten_nil, List.append_nil, List.cons_append, List.nil_append]
  entry_read
  pointwise
  exact rd2_eq _ _ (Nat.lt_one_iff.mp (i 0).isLt) rfl

/-! A window that is its whole array. -/

theorem whole_1 : (iblk m c 1 t : FVec Ideal S1x1024 .f32) = V m c main_v21 := by
  blk_ext! [iblk, idx t]
theorem whole_2 : (iblk m c 2 t : FVec Ideal S1024x6144 .bf16) = V m c main_v12 := by
  blk_ext! [iblk, idx t]
theorem whole_3 : (iblk m c 3 t : FVec Ideal S1024x128 .bf16) = V m c main_v15 := by
  blk_ext! [iblk, idx t]
theorem whole_4 : (iblk m c 4 t : FVec Ideal S128x512 .bf16) = V m c main_v17 := by
  blk_ext! [iblk, idx t]
theorem whole_5 : (iblk m c 5 t : FVec Ideal S1x512 .f32) = V m c main_v22 := by
  blk_ext! [iblk, idx t]
theorem whole_6 : (iblk m c 6 t : FVec Ideal S1x1024 .f32) = V m c main_v23 := by
  blk_ext! [iblk, idx t]
theorem whole_7 : (iblk m c 7 t : FVec Ideal S1x1024 .f32) = V m c main_v24 := by
  blk_ext! [iblk, idx t]
theorem whole_8 : (iblk m c 8 t : FVec Ideal S8x128x128 .f32) = V m c main_v6 := by
  blk_ext! [iblk, idx t]
theorem whole_9 : (iblk m c 9 t : FVec Ideal S128x1024 .f32) = V m c main_v20 := by
  blk_ext! [iblk, idx t]
theorem whole_10 : (iblk m c 10 t : FVec Ideal S1x1024 .f32) = V m c main_v25 := by
  blk_ext! [iblk, idx t]
theorem whole_11 : (iblk m c 11 t : FVec Ideal S2048x1024 .bf16) = V m c main_v26 := by
  blk_ext! [iblk, idx t]
theorem whole_12 : (iblk m c 12 t : FVec Ideal S1x1024 .f32) = V m c main_v27 := by
  blk_ext! [iblk, idx t]

/-! What a grid point reads. -/

theorem read_1 (i : S1x1024.Idx) : (iblk m c 1 t : FVec Ideal S1x1024 .f32) i = (argsAt m c).pg (i 1).val :=
  (congrFun (whole_1 m c t) i).trans (host_21 m c i)
theorem read_2 (i : S1024x6144.Idx) : (iblk m c 2 t : FVec Ideal S1024x6144 .bf16) i = (argsAt m c).win (i 0).val (i 1).val :=
  (congrFun (whole_2 m c t) i).trans (host_12 m c i)
theorem read_3 (i : S1024x128.Idx) : (iblk m c 3 t : FVec Ideal S1024x128 .bf16) i = if (i 1).val < 16 then (argsAt m c).win (i 0).val (6144 + (i 1).val) else 0 :=
  (congrFun (whole_3 m c t) i).trans (host_15 m c i)
theorem read_4 (i : S128x512.Idx) : (iblk m c 4 t : FVec Ideal S128x512 .bf16) i = if (i 0).val < 16 then (argsAt m c).wa (i 0).val (i 1).val else 0 :=
  (congrFun (whole_4 m c t) i).trans (host_17 m c i)
theorem read_5 (i : S1x512.Idx) : (iblk m c 5 t : FVec Ideal S1x512 .f32) i = (argsAt m c).ba (i 1).val :=
  (congrFun (whole_5 m c t) i).trans (host_22 m c i)
theorem read_6 (i : S1x1024.Idx) : (iblk m c 6 t : FVec Ideal S1x1024 .f32) i = (argsAt m c).lg (i 1).val :=
  (congrFun (whole_6 m c t) i).trans (host_23 m c i)
theorem read_7 (i : S1x1024.Idx) : (iblk m c 7 t : FVec Ideal S1x1024 .f32) i = (argsAt m c).lb (i 1).val :=
  (congrFun (whole_7 m c t) i).trans (host_24 m c i)
theorem read_8 (i : S8x128x128.Idx) : (iblk m c 8 t : FVec Ideal S8x128x128 .f32) i = (argsAt m c).ws (i 0).val (i 1).val (i 2).val :=
  (congrFun (whole_8 m c t) i).trans (host_6 m c i)
theorem read_9 (i : S128x1024.Idx) : (iblk m c 9 t : FVec Ideal S128x1024 .f32) i = (argsAt m c).bs ((i 1).val / 128) (i 0).val :=
  (congrFun (whole_9 m c t) i).trans (host_20 m c i)
theorem read_10 (i : S1x1024.Idx) : (iblk m c 10 t : FVec Ideal S1x1024 .f32) i = (argsAt m c).bn (i 1).val :=
  (congrFun (whole_10 m c t) i).trans (host_25 m c i)
theorem read_11 (i : S2048x1024.Idx) : (iblk m c 11 t : FVec Ideal S2048x1024 .bf16) i = (argsAt m c).wo (i 0).val (i 1).val :=
  (congrFun (whole_11 m c t) i).trans (host_26 m c i)
theorem read_12 (i : S1x1024.Idx) : (iblk m c 12 t : FVec Ideal S1x1024 .f32) i = (argsAt m c).og (i 1).val :=
  (congrFun (whole_12 m c t) i).trans (host_27 m c i)

set_option maxHeartbeats 4000000 in
/-- What a grid point reads is the layer's, when the state it finds is. -/
theorem reads (st : FVec Ideal S4x256x128 .f32)
    (hst : ∀ i, st i = (argsAt m c).st (t.val / 4) (i 2).val ((i 0).val * 256 + (i 1).val) (t.val % 4 * 8)) :
    Reads (blk m c t st) (argsAt m c) (t.val / 4) (t.val % 4) := by
  constructor
  case x => exact read_0 m c t
  case pg => exact read_1 m c t
  case win => exact read_2 m c t
  case wl => exact read_3 m c t
  case wa => exact read_4 m c t
  case ba => exact read_5 m c t
  case lg => exact read_6 m c t
  case lb => exact read_7 m c t
  case ws => exact read_8 m c t
  case bs => exact read_9 m c t
  case bn => exact read_10 m c t
  case wo => exact read_11 m c t
  case og => exact read_12 m c t
  case st => exact hst

end Cert.Layer

end
-- ==== Proof.CaseA.lean ====
/- A grid point that starts a batch: the carried state is zero. -/
module
public import proofs.«01_k».proof.Proof.Gen.KernelIdeal.Value
public import proofs.«01_k».proof.Proof.Piece
public import Idealize.ShloMosaic.Lib.Pipeline.ValueKit
public import Idealize.ShloMosaic.Lib.Pipeline.ReadBack
@[expose] public section
set_option maxRecDepth 16384
noncomputable section
namespace Cert.Layer
open Idealize.ShloMosaic Idealize.ShloMosaic.Pipeline Idealize.ShloMosaic.ValueIdx Idealize.SL Idealize.SL.Sem Cert.KernelIdeal Cert.KernelIdeal.Gen Cert.KernelIdeal.Value
set_option maxHeartbeats 8000000 in
theorem block_A (m : (ℓ : Loc nD τ sig) → Buf (Elt Ideal) ℓ) (c : Dev nD) (t : Fin cfg0.N) (acc) (h0 : t.val % 4 = 0) (y) :
   (stAt0 m c t.val t.isLt acc).1 y = (blk m c t k0_pay3).block y := by
  rw [stAt0_A m c t acc h0]; dsimp only
  frame_open
  simp (disch := decide) only [↓View.readCov_skip, ↓View.readCov_fill]
  frame_out
  refine Blk.block_congr _ _ _ _ _ _ _ ?_ ?_ rfl rfl rfl
  · unfold blk
    generalize iblk m c 0 t = x, iblk m c 1 t = pg, iblk m c 2 t = win, iblk m c 3 t = wl, iblk m c 4 t = wa, iblk m c 5 t = ba, iblk m c 10 t = bn, k0_pay3 (F := Ideal) = st
    iterate 32 refine cons_congr ?_ (Blk.tilePiece_congr _ _ _ _ _ rfl rfl ?_)
    · rfl
    all_goals rfl
  · unfold blk
    generalize iblk m c 0 t = x, iblk m c 1 t = pg, iblk m c 2 t = win, iblk m c 3 t = wl, iblk m c 4 t = wa, iblk m c 5 t = ba, iblk m c 10 t = bn, k0_pay3 (F := Ideal) = st
    iterate 32 refine cons_congr ?_ (Blk.mixPiece_congr _ _ _ _ _ rfl rfl ?_)
    iterate 32 refine cons_congr ?_ (Blk.tilePiece_congr _ _ _ _ _ rfl rfl ?_)
    · rfl
    all_goals rfl

set_option maxHeartbeats 8000000 in
theorem state_A (m : (ℓ : Loc nD τ sig) → Buf (Elt Ideal) ℓ) (c : Dev nD) (t : Fin cfg0.N) (acc) (h0 : t.val % 4 = 0) (y) :
   (stAt0 m c t.val t.isLt acc).2 y = View.canon ((blk m c t k0_pay3).states ++ [⟨Rect.unit (s := S4x256x128) ![0, 0, 0] ![4, 256, 128] inb_S4x256x128_S4x256x128_0_0_0, k0_pay3 (F := Ideal)⟩]) y := by
  rw [stAt0_A m c t acc h0]; dsimp only
  frame_open
  simp (disch := decide) only [↓View.readCov_skip, ↓View.readCov_fill]
  frame_out
  refine congrArg (fun L => View.canon L y) ?_
  unfold blk
  generalize iblk m c 0 t = x, iblk m c 1 t = pg, iblk m c 2 t = win, iblk m c 3 t = wl, iblk m c 4 t = wa, iblk m c 5 t = ba, k0_pay3 (F := Ideal) = st
  show _ = ([⟨Rect.unit (s := S4x256x128) ![3,0,0] ![1,256,128] inb_S4x256x128_S1x256x128_3_0_0, shapeCast S1x256x128 (Blk.stN _ 3 8 le_rfl) shapeCasts_S256x128_S1x256x128⟩,
   ⟨Rect.unit (s := S4x256x128) ![2,0,0] ![1,256,128] inb_S4x256x128_S1x256x128_2_0_0, shapeCast S1x256x128 (Blk.stN _ 2 8 le_rfl) shapeCasts_S256x128_S1x256x128⟩,
   ⟨Rect.unit (s := S4x256x128) ![1,0,0] ![1,256,128] inb_S4x256x128_S1x256x128_1_0_0, shapeCast S1x256x128 (Blk.stN _ 1 8 le_rfl) shapeCasts_S256x128_S1x256x128⟩,
   ⟨Rect.unit (s := S4x256x128) ![0,0,0] ![1,256,128] inb_S4x256x128_S1x256x128_0_0_0, shapeCast S1x256x128 (Blk.stN _ 0 8 le_rfl) shapeCasts_S256x128_S1x256x128⟩, ⟨Rect.unit (s := S4x256x128) ![0, 0, 0] ![4, 256, 128] inb_S4x256x128_S4x256x128_0_0_0, st⟩] : List (View.Piece (Elt Ideal) S4x256x128 .f32))
  refine cons_congr (cons_congr (cons_congr (cons_congr rfl ?_) ?_) ?_) ?_
  all_goals congr 1
end Cert.Layer

end
-- ==== Proof.CaseB.lean ====
/- A grid point that goes on from the state carried to it. -/
module
public import proofs.«01_k».proof.Proof.Gen.KernelIdeal.Value
public import proofs.«01_k».proof.Proof.Piece
public import Idealize.ShloMosaic.Lib.Pipeline.ValueKit
public import Idealize.ShloMosaic.Lib.Pipeline.ReadBack
@[expose] public section
set_option maxRecDepth 16384
noncomputable section
namespace Cert.Layer
open Idealize.ShloMosaic Idealize.ShloMosaic.Pipeline Idealize.ShloMosaic.ValueIdx Idealize.SL Idealize.SL.Sem Cert.KernelIdeal Cert.KernelIdeal.Gen Cert.KernelIdeal.Value
set_option maxHeartbeats 8000000 in
theorem block_B (m : (ℓ : Loc nD τ sig) → Buf (Elt Ideal) ℓ) (c : Dev nD) (t : Fin cfg0.N) (acc) (h0 : ¬ t.val % 4 = 0) (y) :
   (stAt0 m c t.val t.isLt acc).1 y = (blk m c t acc.2).block y := by
  rw [stAt0_B m c t acc h0]; dsimp only; frame_out
  generalize hS : View.read (Elt Ideal) (View.whole cc0_scratch1) _ = S
  obtain rfl : acc.2 = S := (read_unread_whole _ _ _).symm.trans hS
  refine Blk.block_congr _ _ _ _ _ _ _ ?_ ?_ rfl rfl rfl
  · unfold blk
    generalize iblk m c 0 t = x, iblk m c 1 t = pg, iblk m c 2 t = win, iblk m c 3 t = wl, iblk m c 4 t = wa, iblk m c 5 t = ba, iblk m c 10 t = bn, acc.2 = st
    iterate 32 refine cons_congr ?_ (Blk.tilePiece_congr _ _ _ _ _ rfl rfl ?_)
    · rfl
    all_goals rfl
  · unfold blk
    generalize iblk m c 0 t = x, iblk m c 1 t = pg, iblk m c 2 t = win, iblk m c 3 t = wl, iblk m c 4 t = wa, iblk m c 5 t = ba, iblk m c 10 t = bn, acc.2 = st
    iterate 32 refine cons_congr ?_ (Blk.mixPiece_congr _ _ _ _ _ rfl rfl ?_)
    iterate 32 refine cons_congr ?_ (Blk.tilePiece_congr _ _ _ _ _ rfl rfl ?_)
    · rfl
    all_goals rfl

theorem state_B (m : (ℓ : Loc nD τ sig) → Buf (Elt Ideal) ℓ) (c : Dev nD) (t : Fin cfg0.N) (acc) (h0 : ¬ t.val % 4 = 0) (y) :
   (stAt0 m c t.val t.isLt acc).2 y = View.canon (blk m c t acc.2).states y := by
  rw [stAt0_B m c t acc h0]; dsimp only; frame_out
  generalize hS : View.read (Elt Ideal) (View.whole cc0_scratch1) _ = S
  obtain rfl : acc.2 = S := (read_unread_whole _ _ _).symm.trans hS
  refine congrArg (fun L => View.canon L y) ?_
  unfold blk
  generalize iblk m c 0 t = x, iblk m c 1 t = pg, iblk m c 2 t = win, iblk m c 3 t = wl, iblk m c 4 t = wa, iblk m c 5 t = ba, acc.2 = st
  show _ = ([⟨Rect.unit (s := S4x256x128) ![3,0,0] ![1,256,128] inb_S4x256x128_S1x256x128_3_0_0, shapeCast S1x256x128 (Blk.stN _ 3 8 le_rfl) shapeCasts_S256x128_S1x256x128⟩,
   ⟨Rect.unit (s := S4x256x128) ![2,0,0] ![1,256,128] inb_S4x256x128_S1x256x128_2_0_0, shapeCast S1x256x128 (Blk.stN _ 2 8 le_rfl) shapeCasts_S256x128_S1x256x128⟩,
   ⟨Rect.unit (s := S4x256x128) ![1,0,0] ![1,256,128] inb_S4x256x128_S1x256x128_1_0_0, shapeCast S1x256x128 (Blk.stN _ 1 8 le_rfl) shapeCasts_S256x128_S1x256x128⟩,
   ⟨Rect.unit (s := S4x256x128) ![0,0,0] ![1,256,128] inb_S4x256x128_S1x256x128_0_0_0, shapeCast S1x256x128 (Blk.stN _ 0 8 le_rfl) shapeCasts_S256x128_S1x256x128⟩] : List (View.Piece (Elt Ideal) S4x256x128 .f32))
  refine cons_congr (cons_congr (cons_congr (cons_congr rfl ?_) ?_) ?_) ?_
  all_goals congr 1
end Cert.Layer

end
-- ==== Proof.Val2.lean ====
/- The value of one chunk of one head: the attention within it, the state's step, the output, and so of each store of the
   second branch. -/
module

public import proofs.«01_k».proof.Proof.Val1

@[expose] public section

set_option maxRecDepth 16384

noncomputable section

namespace Cert.Layer

open Idealize.ShloMosaic Cert.KernelIdeal Cert.KernelIdeal.Gen

/-- A lower triangle kept, and zeros elsewhere. -/
theorem Is2.lower {p q : ℕ} {X : FVec Ideal ⟨2, ![p, q]⟩ .f32} {F : ℕ → ℕ → EReal} (hX : Is2 X F) (m : IVec ⟨2, ![p, q]⟩ 1)
    (hm : ∀ a b, m (ValueIdx.ix2 a b) = if b.val ≤ a.val then 1#1 else 0#1) :
    Is2 (select m X (broadcast ⟨2, ![p, q]⟩ (Scalar.ofBits (F := Ideal) .f32 0x00000000#32))) fun a b => if b ≤ a then F a b else 0 := fun i => by
  show (if m i = 1#1 then X i else Ideal.ofBits .f32 0x00000000#32) = if (i 1).val ≤ (i 0).val then F (i 0).val (i 1).val else 0
  rw [(congrArg m (idx2_ext rfl rfl : i = ValueIdx.ix2 (i 0) (i 1))).trans (hm _ _), Ideal.ofBits_zero_f32, hX]
  by_cases h : (i 1).val ≤ (i 0).val
  · rw [if_pos h, if_pos h, if_pos rfl]
  · rw [if_neg h, if_neg h, if_neg (by decide)]

section Chunk
variable {A : Args} {b g hd : ℕ} {bb qq kk : FVec Ideal S64x128 .f32} {vv : FVec Ideal S64x256 .bf16} {st : FVec Ideal S256x128 .f32}
  (hb : Is2 bb fun a d => A.cum b (g * 64 + a) (hd * 128 + d))
  (hq : Is2 qq fun a d => A.q b (g * 64 + a) (hd * 128 + d)) (hk : Is2 kk fun a d => A.k b (g * 64 + a) (hd * 128 + d))
  (hv : Is2 vv fun a e => A.v b (g * 64 + a) (hd * 256 + e)) (hs : Is2 st fun e d => A.st b d (hd * 256 + e) g)

include hb in
theorem midRow_is : Is2 (midRow bb) fun a d => A.cumMid b (g * 64 + a) (hd * 128 + d) :=
  ((hb.slice _).brow _).congr fun a d ha _ => by
    rw [Args.cumMid, Nat.zero_add, Nat.add_zero, show (g * 64 + a) / 64 * 64 + 31 = g * 64 + 31 by omega]
include hb in
theorem lastRow_is : Is2 (lastRow bb) fun _ d => A.cum b (g * 64 + 63) (hd * 128 + d) :=
  (hb.slice _).congr fun a d ha _ => by
    rw [Nat.zero_add, show g * 64 + (63 + a) = g * 64 + 63 by omega]
include hb hq hk in
theorem scores_is : Is2 (scores bb qq kk) fun s t => A.score b (g * 64 + s) (g * 64 + t) hd :=
  Is2.mmNT _ rfl (fun _ _ => idx2_ext rfl rfl) (fun _ _ => idx2_ext rfl rfl)
    ((hq.mul (hb.sub (midRow_is hb)).exp).trunc bitsLt_bf16_f32) ((hk.mul ((midRow_is hb).sub hb).exp).trunc bitsLt_bf16_f32)
include hb hq hk hv in
theorem intra_is : Is2 (intra k0_pay21 bb qq kk vv) fun a e => A.oIntra b (g * 64 + a) (hd * 256 + e) :=
  (Is2.mmNN _ rfl (fun _ _ => idx2_ext rfl rfl) (fun _ _ => idx2_ext rfl rfl)
    (((scores_is hb hq hk).lower _ Blk.mask64_ix).trunc bitsLt_bf16_f32) hv).congr fun a e ha he => by
      rw [Args.oIntra, show (g * 64 + a) % 64 = a by omega, show (g * 64 + a) / 64 = g by omega, show (hd * 256 + e) / 256 = hd by omega]
include hb hq in
theorem decayedQ_is : Is2 (decayedQ bb qq) fun a d => A.qb b (g * 64 + a) (hd * 128 + d) :=
  (hq.mul hb.exp).trunc bitsLt_bf16_f32
include hb hq hk hv hs in
theorem attended_is : Is2 (attended k0_pay21 bb qq kk vv st) fun a e => A.o b (g * 64 + a) (hd * 256 + e) :=
  ((intra_is hb hq hk hv).add (Is2.mmNT _ rfl (fun _ _ => idx2_ext rfl rfl) (fun _ _ => idx2_ext rfl rfl)
    (decayedQ_is hb hq) (hs.trunc bitsLt_bf16_f32))).congr fun a e ha he => by
      rw [Args.o, Args.oInter, show (g * 64 + a) / 64 = g by omega, show (hd * 256 + e) / 256 = hd by omega]
include hb hk hv in
theorem stateIn_is : Is2 (stateIn bb kk vv) fun e d => A.kv b g d (hd * 256 + e) :=
  (Is2.mmTN _ rfl (fun _ _ => idx2_ext rfl rfl) (fun _ _ => idx2_ext rfl rfl) hv
    ((hk.mul (((lastRow_is hb).brow _).sub hb).exp).trunc bitsLt_bf16_f32)).congr fun e d he hd' => by
      rw [Args.kv, show (hd * 256 + e) / 256 = hd by omega]
      refine Finset.sum_congr rfl fun t _ => ?_
      have ht := t.isLt
      rw [Args.kd, Args.cumLast, show (g * 64 + (t : ℕ)) / 64 * 64 + 63 = g * 64 + 63 by omega, mul_comm]
include hb hk hv hs in
theorem stateStep_is : Is2 (stateStep bb kk vv st) fun e d => A.st b d (hd * 256 + e) (g + 1) :=
  ((hs.mul ((lastRow_is hb).exp.brow _)).add (stateIn_is hb hk hv)).congr fun e d he _ => by
    rw [Args.st, show (hd * 256 + e) / 256 = hd by omega, mul_comm]

end Chunk

theorem rms64_is {o : FVec Ideal S64x256 .f32} {F : ℕ → ℕ → EReal} (ho : Is2 o F) : Is2 (rms64 o) fun a _ => rms 256 c256 (F a) := by
  have h1 := (ho.mul ho).rowSum reduces_S64x256_S64 (.inl rfl) rfl shapeCasts_S64_S64x1
  have h2 := (h1.div (Is2.const (φ := .f32) 0x43800000#32)).add (Is2.const (φ := .f32) 0x358637BD#32)
  exact h2.rsqrt.bcol _
theorem gated_is {o g : FVec Ideal S64x256 .f32} {bn : FVec Ideal S1x256 .f32} {F G : ℕ → ℕ → EReal} {w : ℕ → EReal} (ho : Is2 o F)
    (hbn : Is2 bn fun _ e => w e) (hg : Is2 g G) : Is2 (gated o bn g) fun a e => F a e * rms 256 c256 (F a) * w e * G a e :=
  ((((ho.mul (rms64_is ho)).mul ((hbn.cast shapeCasts_S1x256_S1x256).brow broadcasts_S1x256_S64x256)).mul hg).trunc bitsLt_bf16_f32).cast _

variable {B : Blk} {A : Args} {b n : ℕ} (H : Reads B A b n)
include H

namespace Reads

theorem rowsQ (c : Fin 8) (hd : Fin 4) : Is2 (rowsAt B.q c hd) fun a d => A.q b ((n * 8 + c.val) * 64 + a) (hd.val * 128 + d) :=
  (H.q.slice _).congr fun a d _ _ => by rw [show n * 512 + (c.val * 64 + a) = (n * 8 + c.val) * 64 + a by omega]
theorem rowsK (c : Fin 8) (hd : Fin 4) : Is2 (rowsAt B.k c hd) fun a d => A.k b ((n * 8 + c.val) * 64 + a) (hd.val * 128 + d) :=
  (H.k.slice _).congr fun a d _ _ => by rw [show n * 512 + (c.val * 64 + a) = (n * 8 + c.val) * 64 + a by omega]
theorem rowsV (c : Fin 8) (hd : Fin 4) : Is2 (rowsOf (B.v hd) c) fun a e => A.v b ((n * 8 + c.val) * 64 + a) (hd.val * 256 + e) :=
  ((H.v hd).slice _).congr fun a e _ _ => by rw [show n * 512 + (c.val * 64 + a) = (n * 8 + c.val) * 64 + a by omega, Nat.zero_add]
theorem rowsG (c : Fin 8) (hd : Fin 4) : Is2 (rowsOf (B.gb hd) c) fun a e => silu (A.z b ((n * 8 + c.val) * 64 + a) (5120 + (hd.val * 256 + e))) :=
  ((H.gb hd).slice _).congr fun a e _ _ => by rw [show n * 512 + (c.val * 64 + a) = (n * 8 + c.val) * 64 + a by omega, Nat.zero_add]

theorem stN (hd : Fin 4) : ∀ (m : ℕ) (h : m ≤ 8), Is2 (B.stN hd m h) fun e d => A.st b d (hd.val * 256 + e) (n * 8 + m)
  | 0, _ => H.st0 hd
  | m + 1, h => stateStep_is (H.bAt ⟨m, h⟩ hd) (H.rowsK ⟨m, h⟩ hd) (H.rowsV ⟨m, h⟩ hd) (stN hd m (Nat.le_of_succ_le h))

theorem tile (hd : Fin 4) (c : Fin 8) : Is2 (B.tile hd c) fun a e => A.bout b ((n * 8 + c.val) * 64 + a) (hd.val * 256 + e) :=
  (gated_is (attended_is (H.bAt c hd) (H.rowsQ c hd) (H.rowsK c hd) (H.rowsV c hd) (H.stN hd c.val (Nat.le_of_lt c.isLt)))
    (H.bnH hd) (H.rowsG c hd)).congr fun a e _ he => by
      rw [Args.bout, show (hd.val * 256 + e) / 256 = hd.val by omega]

end Reads

end Cert.Layer

end
-- ==== Proof.Val3.lean ====
/- The value of the first branch's stores, and of the block that a grid point writes and the state that it leaves. -/
module

public import proofs.«01_k».proof.Proof.Val2
public import proofs.«01_k».proof.Proof.Piece

@[expose] public section

set_option maxRecDepth 16384

noncomputable section

namespace Cert.Layer

open Idealize.ShloMosaic Idealize.SL Idealize.SL.Sem Cert.KernelIdeal Cert.KernelIdeal.Gen

variable {B : Blk} {A : Args} {b n : ℕ} (H : Reads B A b n)

namespace Reads

include H in
theorem vn : Is2 B.vn fun a e => A.vn b (n * 512 + a) e := by
  have hc := Is2.concat4 (F := fun a e => A.va b (n * 512 + a) e)
    ((H.ga 0).congr fun a e _ _ => by show A.va b _ (0 * 256 + e) = _; rw [Nat.zero_mul, Nat.zero_add])
    ((H.ga 1).congr fun a e _ _ => rfl) ((H.ga 2).congr fun a e _ _ => rfl) ((H.ga 3).congr fun a e _ _ => rfl)
    concatenates_S512x256_S512x256_S512x256_S512x256_S512x1024_d1
  have hm := (hc.rowSum reduces_S512x1024_S512 (.inl rfl) rfl shapeCasts_S512_S512x1).div (Is2.const (φ := .f32) 0x44800000#32)
  have hd := hc.sub (hm.bcol broadcasts_S512x1_S512x1024)
  have hv := ((((hd.mul hd).rowSum reduces_S512x1024_S512 (.inl rfl) rfl shapeCasts_S512_S512x1).div (Is2.const (φ := .f32) 0x44800000#32)).add
    (Is2.const (φ := .f32) 0x358637BD#32)).rsqrt.bcol broadcasts_S512x1_S512x1024
  exact (((hd.mul hv).mul ((H.lg.cast shapeCasts_S1x1024_S1x1024).brow broadcasts_S1x1024_S512x1024)).add
    ((H.lb.cast shapeCasts_S1x1024_S1x1024).brow broadcasts_S1x1024_S512x1024)).trunc bitsLt_bf16_f32

include H in
theorem mixTile (gr : Fin 8) (r : Fin 4) : Is2 (B.mixTile gr r) fun a e => A.aout b (n * 512 + r.val * 128 + a) (gr.val * 128 + e) := by
  have hw : Is2 (shapeCast S128x128 (View.ld (Val := Elt Ideal) (e' := .f32) B.ws (Rect.unit (s := S8x128x128) ![gr.val, 0, 0] ![1, 128, 128] (by intro a; fin_cases a <;> simp <;> omega)) : FVec Ideal S1x128x128 .f32) shapeCasts_S1x128x128_S128x128)
      fun a t => A.ws gr.val a t :=
    Is2.squeeze (F := fun a t => A.ws gr.val a t) (fun i => by
      have h0 : (i 0).val = 0 := Nat.lt_one_iff.mp (i 0).isLt
      rw [View.ld_apply, H.ws]
      simp only [Rect.idx_unit_val]
      show A.ws (gr.val + (i 0).val) (0 + (i 1).val) (0 + (i 2).val) = _
      rw [h0, Nat.add_zero, Nat.zero_add, Nat.zero_add]) _
  have hu := ((H.ug ⟨gr.val / 2, by omega⟩).slice (r := 512) (s := 128) (o₁ := 0) (o₂ := gr.val % 2 * 128) (slices2 _ _ (by omega) (by omega))).slice
    (r := 128) (s := 128) (o₁ := r.val * 128) (o₂ := 0) (slices2 _ _ (by omega) (by omega))
  have hm := Is2.mmNN dot_S128x128_S128x128_S128x128_1_0_0_1_n_n rfl (fun _ _ => idx2_ext rfl rfl) (fun _ _ => idx2_ext rfl rfl)
    ((hw.lower _ Blk.causal_ix).trunc bitsLt_bf16_f32)
    (H.vn.slice (r := 128) (s := 128) (o₁ := r.val * 128) (o₂ := gr.val * 128) (slices2 _ _ (by omega) (by omega)))
  have hb := (H.bs.ld (r := 128) (s := 128) (o₁ := 0) (o₂ := gr.val * 128) (slices2 (p := 128) (q := 1024) (r := 128) (s := 128) 0 _ (by omega) (by omega)).2).cast shapeCasts_S128x128_S128x128
  refine (((hu.mul (hm.add hb)).trunc bitsLt_bf16_f32).cast shapeCasts_S128x128_S128x128).congr fun a e ha he => ?_
  have hr := r.isLt
  rw [Args.aout, Args.sp, show (n * 512 + r.val * 128 + a) % 128 = a by omega, show (n * 512 + r.val * 128 + a) / 128 * 128 = n * 512 + r.val * 128 by omega,
    show (gr.val * 128 + e) / 128 = gr.val by omega, mul_right_comm]
  show gelu (A.z b (n * 512 + (0 + (r.val * 128 + a))) (gr.val / 2 * 256 + (gr.val % 2 * 128 + (0 + e))))
    * ((∑ t : Fin 128, (if (t : ℕ) ≤ a then A.ws gr.val a t else 0) * A.vn b (n * 512 + (r.val * 128 + t)) (gr.val * 128 + e))
      + A.bs gr.val (0 + a))
    * silu (A.z b (n * 512 + (0 + (r.val * 128 + a))) (2048 + (gr.val / 2 * 256 + (gr.val % 2 * 128 + (0 + e))))) = _
  rw [show n * 512 + (0 + (r.val * 128 + a)) = n * 512 + r.val * 128 + a by omega,
    show gr.val / 2 * 256 + (gr.val % 2 * 128 + (0 + e)) = gr.val * 128 + e by omega, Nat.zero_add]
  refine congrArg (_ * · * _) (congrArg (· + _) (Finset.sum_congr rfl fun t _ => ?_))
  rw [mul_comm, Nat.add_assoc]

/-! ## The scratch memory after all stores -/

/-- The two branches side by side, at the block's rows. -/
def side (A : Args) (b n : ℕ) (i : S512x2048.Idx) : EReal := A.mixed b (n * 512 + (i 0).val) (i 1).val

include H in
theorem tilePiece (hd : Fin 4) (c : Fin 8) (x : S64x256.Idx) : B.tile hd c x = side A b n ((B.tilePiece hd c).1.emb x) := by
  refine (H.tile hd c x).trans ?_
  show _ = A.mixed b (n * 512 + (c.val * 64 + 1 * (x 0).val)) (1024 + hd.val * 256 + 1 * (x 1).val)
  rw [Args.mixed, if_neg (by omega), show n * 512 + (c.val * 64 + 1 * (x 0).val) = (n * 8 + c.val) * 64 + (x 0).val by omega,
    show 1024 + hd.val * 256 + 1 * (x 1).val - 1024 = hd.val * 256 + (x 1).val by omega]
include H in
theorem mixPiece (gr : Fin 8) (r : Fin 4) (x : S128x128.Idx) : B.mixTile gr r x = side A b n ((B.mixPiece gr r).1.emb x) := by
  refine (H.mixTile gr r x).trans ?_
  have hx : (x 1).val < 128 := (x 1).isLt
  have hg := gr.isLt
  show _ = A.mixed b (n * 512 + (r.val * 128 + 1 * (x 0).val)) (gr.val * 128 + 1 * (x 1).val)
  rw [Args.mixed, if_pos (by omega), Nat.one_mul, Nat.one_mul, ← Nat.add_assoc]
include H in
theorem tiles_side : ∀ (m : ℕ) (h : m ≤ 32), ∀ p ∈ B.tiles m h, ∀ x : p.1.shape.Idx, p.2 x = side A b n (p.1.emb x)
  | 0, _, _, hp, _ => absurd hp List.not_mem_nil
  | m + 1, h, p, hp, x => by
    rcases List.mem_cons.mp hp with rfl | hp
    · exact H.tilePiece _ _ x
    · exact tiles_side m _ p hp x
include H in
theorem mixTiles_side : ∀ (m : ℕ) (h : m ≤ 32), ∀ p ∈ B.mixTiles m h, ∀ x : p.1.shape.Idx, p.2 x = side A b n (p.1.emb x)
  | 0, _, p, hp, x => H.tiles_side 32 le_rfl p hp x
  | m + 1, h, p, hp, x => by
    rcases List.mem_cons.mp hp with rfl | hp
    · exact H.mixPiece _ _ x
    · exact mixTiles_side m _ p hp x

theorem tilePiece_mem (B : Blk) (hd : Fin 4) (c : Fin 8) : ∀ (m : ℕ) (h : m ≤ 32), hd.val * 8 + c.val < m → B.tilePiece hd c ∈ B.tiles m h
  | 0, _, hm => absurd hm (Nat.not_lt_zero _)
  | m + 1, h, hm => by
    by_cases e : hd.val * 8 + c.val = m
    · have e1 : (⟨m / 8, by omega⟩ : Fin 4) = hd := Fin.ext (by show m / 8 = _; omega)
      have e2 : (⟨m % 8, by omega⟩ : Fin 8) = c := Fin.ext (by show m % 8 = _; omega)
      exact List.mem_cons.mpr (.inl (by rw [e1, e2]))
    · exact List.mem_cons_of_mem _ (tilePiece_mem B hd c m _ (by omega))
theorem mixPiece_mem (B : Blk) (gr : Fin 8) (r : Fin 4) : ∀ (m : ℕ) (h : m ≤ 32), gr.val * 4 + r.val < m → B.mixPiece gr r ∈ B.mixTiles m h
  | 0, _, hm => absurd hm (Nat.not_lt_zero _)
  | m + 1, h, hm => by
    by_cases e : gr.val * 4 + r.val = m
    · have e1 : (⟨m / 4, by omega⟩ : Fin 8) = gr := Fin.ext (by show m / 4 = _; omega)
      have e2 : (⟨m % 4, by omega⟩ : Fin 4) = r := Fin.ext (by show m % 4 = _; omega)
      exact List.mem_cons.mpr (.inl (by rw [e1, e2]))
    · exact List.mem_cons_of_mem _ (mixPiece_mem B gr r m _ (by omega))

theorem tiles_cover (B : Blk) (y : S512x2048.Idx) (hy : 1024 ≤ (y 1).val) : ∃ p ∈ B.tiles 32 le_rfl, y ∈ p.1.set := by
  have h0 : (y 0).val < 512 := (y 0).isLt
  have h1 : (y 1).val < 2048 := (y 1).isLt
  refine ⟨_, tilePiece_mem B ⟨((y 1).val - 1024) / 256, by omega⟩ ⟨(y 0).val / 64, by omega⟩ 32 le_rfl (by show ((y 1).val - 1024) / 256 * 8 + (y 0).val / 64 < 32; omega),
    (Rect.mem_set_unit (inb := (slices2 (p := 512) (q := 2048) (r := 64) (s := 256) ((y 0).val / 64 * 64) (1024 + ((y 1).val - 1024) / 256 * 256) (by omega) (by omega)).2)).mpr (fin2_forall ?_ ?_)⟩
  · show (y 0).val / 64 * 64 ≤ (y 0).val ∧ (y 0).val < (y 0).val / 64 * 64 + 64
    omega
  · show 1024 + ((y 1).val - 1024) / 256 * 256 ≤ (y 1).val ∧ (y 1).val < 1024 + ((y 1).val - 1024) / 256 * 256 + 256
    omega
theorem mixTiles_cover (B : Blk) (y : S512x2048.Idx) (hy : (y 1).val < 1024) : ∃ p ∈ B.mixTiles 32 le_rfl, y ∈ p.1.set := by
  have h0 : (y 0).val < 512 := (y 0).isLt
  refine ⟨_, mixPiece_mem B ⟨(y 1).val / 128, by omega⟩ ⟨(y 0).val / 128, by omega⟩ 32 le_rfl (by show (y 1).val / 128 * 4 + (y 0).val / 128 < 32; omega),
    (Rect.mem_set_unit (inb := (slices2 (p := 512) (q := 2048) (r := 128) (s := 128) ((y 0).val / 128 * 128) ((y 1).val / 128 * 128) (by omega) (by omega)).2)).mpr (fin2_forall ?_ ?_)⟩
  · show (y 0).val / 128 * 128 ≤ (y 0).val ∧ (y 0).val < (y 0).val / 128 * 128 + 128
    omega
  · show (y 1).val / 128 * 128 ≤ (y 1).val ∧ (y 1).val < (y 1).val / 128 * 128 + 128
    omega

include H in
theorem rightHalf : Is2 (p := 512) (q := 1024) (φ := .bf16) (fun j => View.canon (B.tiles 32 le_rfl) ((Rect.unit (s := S512x2048) ![0, 1024] ![512, 1024] inb_S512x2048_S512x1024_0_1024).toLoadRect.idx j))
    fun a e => A.mixed b (n * 512 + a) (1024 + e) := fun j => by
  refine (View.canon_apply_of_pieces (side A b n) _ (H.tiles_side 32 le_rfl) _ (tiles_cover B _ (by show 1024 ≤ 1024 + 1 * (j 1).val; omega))).trans ?_
  show A.mixed b (n * 512 + (0 + 1 * (j 0).val)) (1024 + 1 * (j 1).val) = _
  rw [Nat.one_mul, Nat.one_mul, Nat.zero_add]
include H in
theorem leftHalf : Is2 (p := 512) (q := 1024) (φ := .bf16) (fun j => View.canon (B.mixTiles 32 le_rfl) ((Rect.unit (s := S512x2048) ![0, 0] ![512, 1024] inb_S512x2048_S512x1024_0_0).toLoadRect.idx j))
    fun a e => A.mixed b (n * 512 + a) e := fun j => by
  have h1 : (j 1).val < 1024 := (j 1).isLt
  refine (View.canon_apply_of_pieces (side A b n) _ (H.mixTiles_side 32 le_rfl) _ (mixTiles_cover B _ (by show 0 + 1 * (j 1).val < 1024; omega))).trans ?_
  show A.mixed b (n * 512 + (0 + 1 * (j 0).val)) (0 + 1 * (j 1).val) = _
  rw [Nat.one_mul, Nat.one_mul, Nat.zero_add, Nat.zero_add]

include H in
/-- The block that a grid point writes is the layer's. -/
theorem block (i : S1x512x1024.Idx) : B.block i = A.out b (n * 512 + (i 1).val) (i 2).val := by
  have hx : Is2 (k0_pay4 B.x) fun a e => A.x b (n * 512 + a) e := Is2.squeeze (F := fun a e => A.x b (n * 512 + a) e) H.x _
  have hr := Is2.mmNN dot_S512x1024_S1024x1024_S512x1024_1_0_0_1_n_n rfl (fun _ _ => idx2_ext rfl rfl) (fun _ _ => idx2_ext rfl rfl) H.rightHalf
    ((H.wo.ldb inb_S2048x1024_S1024x1024_1024_0).cast shapeCasts_S1024x1024_S1024x1024)
  have hl := Is2.mmNN dot_S512x1024_S1024x1024_S512x1024_1_0_0_1_n_n rfl (fun _ _ => idx2_ext rfl rfl) (fun _ _ => idx2_ext rfl rfl) H.leftHalf
    ((H.wo.ldb inb_S2048x1024_S1024x1024_0_0).cast shapeCasts_S1024x1024_S1024x1024)
  have hy := (hr.add hl).congr (G := fun a d => A.y b (n * 512 + a) d) fun a d _ _ => by
    rw [Args.y, show (2048 : ℕ) = 1024 + 1024 from rfl, Fin.sum_univ_add, add_comm, Nat.zero_add]
    refine congrArg₂ (· + ·) (Finset.sum_congr rfl fun k _ => ?_) rfl
    rw [Nat.zero_add]
    rfl
  have hs := ((((hy.mul hy).rowSum reduces_S512x1024_S512 (.inl rfl) rfl shapeCasts_S512_S512x1).div (Is2.const (φ := .f32) 0x44800000#32)).add
    (Is2.const (φ := .f32) 0x358637BD#32)).rsqrt.bcol broadcasts_S512x1_S512x1024
  exact (hx.add ((hy.mul hs).mul ((H.og.cast shapeCasts_S1x1024_S1x1024).brow broadcasts_S1x1024_S512x1024))).unsqueeze shapeCasts_S512x1024_S1x512x1024 i

/-! ## The carried state -/

/-- The state before the next block. -/
def next (A : Args) (b n : ℕ) (i : S4x256x128.Idx) : EReal := A.st b (i 2).val ((i 0).val * 256 + (i 1).val) ((n + 1) * 8)

include H in
theorem statePiece (hd : Fin 4) (x : S1x256x128.Idx) : shapeCast S1x256x128 (B.stN hd 8 le_rfl) shapeCasts_S256x128_S1x256x128 x = next A b n ((B.statePiece hd).1.emb x) := by
  have h0 : (x 0).val = 0 := Nat.lt_one_iff.mp (x 0).isLt
  refine ((H.stN hd 8 le_rfl).unsqueeze shapeCasts_S256x128_S1x256x128 x).trans ?_
  show _ = A.st b (0 + 1 * (x 2).val) ((hd.val + 1 * (x 0).val) * 256 + (0 + 1 * (x 1).val)) ((n + 1) * 8)
  rw [h0, Nat.mul_zero, Nat.one_mul, Nat.one_mul, Nat.zero_add, Nat.zero_add, Nat.succ_mul]
  rfl

include H in
/-- The state that a grid point leaves, over whatever was stored before, is the one before the next block. -/
theorem states (L : List (View.Piece (Elt Ideal) S4x256x128 .f32)) (y : S4x256x128.Idx) : View.canon (B.states ++ L) y = next A b n y := by
  refine View.canon_append_of_pieces (next A b n) L B.states ?_ y ?_
  · intro p hp x
    have hp' : p = B.statePiece 3 ∨ p = B.statePiece 2 ∨ p = B.statePiece 1 ∨ p = B.statePiece 0 := by simpa [Blk.states] using hp
    rcases hp' with rfl | rfl | rfl | rfl <;> exact H.statePiece _ x
  · have hm : ∀ hd : Fin 4, B.statePiece hd ∈ B.states := by intro hd; fin_cases hd <;> simp [Blk.states]
    refine ⟨_, hm (y 0), (Rect.mem_set_unit (inb := by have h : (y 0).val < 4 := (y 0).isLt; intro a; fin_cases a <;> simp <;> omega)).mpr fun a => ?_⟩
    match a with
    | ⟨0, _⟩ => exact ⟨le_rfl, Nat.lt_succ_self _⟩
    | ⟨1, _⟩ => exact ⟨Nat.zero_le _, lt_of_lt_of_eq (y 1).isLt (Nat.zero_add _).symm⟩
    | ⟨2, _⟩ => exact ⟨Nat.zero_le _, lt_of_lt_of_eq (y 2).isLt (Nat.zero_add _).symm⟩

end Reads

end Cert.Layer

end
-- ==== Proof.Carry.lean ====
/- The state carried from point to point, and the array the kernel leaves. -/
module

public import proofs.«01_k».proof.Proof.Windows
public import proofs.«01_k».proof.Proof.CaseA
public import proofs.«01_k».proof.Proof.CaseB
public import proofs.«01_k».proof.Proof.Val3

@[expose] public section

set_option maxRecDepth 16384

noncomputable section

namespace Cert.Layer

open Idealize.ShloMosaic Idealize.ShloMosaic.Pipeline Idealize.SL Idealize.SL.Sem Cert.KernelIdeal Cert.KernelIdeal.Gen Cert.KernelIdeal.Value
open Idealize.ShloMosaic.TcCoe

variable (m : (ℓ : Loc nD τ sig) → Buf (Elt Ideal) ℓ) (c : Dev nD)

theorem zero_state (i : S4x256x128.Idx) : (k0_pay3 (F := Ideal)) i = 0 := by
  unfold k0_pay3
  rw [shapeCast_self]
  exact Ideal.ofBits_zero_f32

/-- What a grid point leaves, when the state it finds is the layer's or it clears it. -/
theorem step (t : Fin cfg0.N) (acc : FVec Ideal S1x512x1024 .f32 × FVec Ideal S4x256x128 .f32)
    (h : ¬ t.val % 4 = 0 → ∀ i, acc.2 i = (argsAt m c).st (t.val / 4) (i 2).val ((i 0).val * 256 + (i 1).val) (t.val % 4 * 8)) :
    (∀ y, (stAt0 m c t.val t.isLt acc).1 y = (argsAt m c).out (t.val / 4) (t.val % 4 * 512 + (y 1).val) (y 2).val)
      ∧ ∀ y, (stAt0 m c t.val t.isLt acc).2 y = Reads.next (argsAt m c) (t.val / 4) (t.val % 4) y := by
  by_cases h0 : t.val % 4 = 0
  · have H := reads m c t k0_pay3 (fun i => by rw [zero_state, h0]; rfl)
    exact ⟨fun y => (block_A m c t acc h0 y).trans (H.block y), fun y => (state_A m c t acc h0 y).trans (H.states _ y)⟩
  · have H := reads m c t acc.2 (h h0)
    refine ⟨fun y => (block_B m c t acc h0 y).trans (H.block y), fun y => (state_B m c t acc h0 y).trans ?_⟩
    have hs := H.states [] y
    rwa [List.append_nil] at hs

/-- A property of the points' outcomes, carried along the fold over them. -/
theorem fold_induction {α : Type*} {N : ℕ} (g : (n : ℕ) → n < N → α → α) (z : α) (P : ℕ → α → Prop) (hz : ∀ h, P 0 (g 0 h z))
    (hs : ∀ n h acc, P n acc → P (n + 1) (g (n + 1) h acc)) (n : ℕ) (hn : 0 + n < N) :
    P n (Pipeline.accAt (fun n h => g n h z) g 0 n hn) := by
  induction n with
  | zero => exact hz _
  | succ n ih =>
    have e : ∀ k (hk : k < N), k = n + 1 → P (n + 1) (g k hk (Pipeline.accAt (fun n h => g n h z) g 0 n (Nat.lt_of_succ_lt hn))) := by
      intro k hk hkn
      subst hkn
      exact hs n hk _ (ih _)
    exact e _ hn (Nat.zero_add _)

/-- What a grid point is to leave. -/
def Left (n : ℕ) (p : FVec Ideal S1x512x1024 .f32 × FVec Ideal S4x256x128 .f32) : Prop :=
  (∀ y, p.1 y = (argsAt m c).out (n / 4) (n % 4 * 512 + (y 1).val) (y 2).val) ∧ ∀ y, p.2 y = Reads.next (argsAt m c) (n / 4) (n % 4) y

theorem left_first (n : ℕ) (hn : n < cfg0.N) (acc) (h : n % 4 = 0) : Left m c n (stAt0 m c n hn acc) :=
  step m c ⟨n, hn⟩ acc (fun h' => absurd h h')

theorem left_succ (n : ℕ) (h : n + 1 < cfg0.N) (acc) (hp : Left m c n acc) : Left m c (n + 1) (stAt0 m c (n + 1) h acc) :=
  step m c ⟨n + 1, h⟩ acc (fun h i => by
    have h' : ¬ (n + 1) % 4 = 0 := h
    show acc.2 i = (argsAt m c).st ((n + 1) / 4) (i 2).val ((i 0).val * 256 + (i 1).val) ((n + 1) % 4 * 8)
    rw [hp.2 i, Reads.next, show (n + 1) / 4 = n / 4 by omega, show (n + 1) % 4 = n % 4 + 1 by omega])

/-- What every grid point leaves. -/
theorem carried (n : ℕ) (hn : 0 + n < cfg0.N) :
    Left m c n (Pipeline.accAt (fun n h => stAt0 m c n h junk0) (stAt0 m c) 0 n hn) :=
  fold_induction (stAt0 m c) junk0 (Left m c) (fun h => left_first m c 0 h junk0 rfl) (left_succ m c) n hn

/-- The array the kernel leaves is the layer's. -/
theorem result (i : S8x2048x1024.Idx) : (G13 m c : FVec Ideal S8x2048x1024 .f32) i = (argsAt m c).out (i 0).val (i 1).val (i 2).val := by
  have h0 : (i 0).val < 8 := (i 0).isLt
  have h1 : (i 1).val < 2048 := (i 1).isLt
  have h2 : (i 2).val < 1024 := (i 2).isLt
  have hN : cfg0.N = 32 := N_0
  have hp : pt13Of i < cfg0.N := by
    show 4 * ((i 0).val / 1 - 0) + 1 * ((i 1).val / 512 - 0) + 1 * ((i 2).val / 1024 - 0) < cfg0.N
    omega
  unfold G13
  rw [dif_pos hp]
  refine ((carried m c _ _).1 _).trans ?_
  have e0 : pt13Of i / 4 = (i 0).val := by
    show (4 * ((i 0).val / 1 - 0) + 1 * ((i 1).val / 512 - 0) + 1 * ((i 2).val / 1024 - 0)) / 4 = _
    omega
  have e1 : pt13Of i % 4 * 512 + (loc13Of i 1).val = (i 1).val := by
    show (4 * ((i 0).val / 1 - 0) + 1 * ((i 1).val / 512 - 0) + 1 * ((i 2).val / 1024 - 0)) % 4 * 512 + (i 1).val % 512 = _
    omega
  have e2 : (loc13Of i 2).val = (i 2).val := Nat.mod_eq_of_lt h2
  rw [e0, e1, e2]

end Cert.Layer

end
-- ==== Proof.Ref1.lean ====
/- The reference's values, stage by stage: the norm, the projection and the spatial gating branch. -/
module

public import proofs.«01_k».proof.Proof.Pure
public import proofs.«01_k».proof.Proof.Gen.ReferenceIdeal.Read

@[expose] public section

set_option maxRecDepth 16384

noncomputable section

namespace Cert.Layer.Ref

open Idealize.ShloMosaic Cert.ReferenceIdeal Cert.ReferenceIdeal.Read

variable (x0 : (⟨S8x2048x1024, .f32⟩ : BufTy).Contents (Elt Ideal)) (x1 : (⟨S1x1024, .f32⟩ : BufTy).Contents (Elt Ideal))
  (x2 : (⟨S1x1024x6160, .f32⟩ : BufTy).Contents (Elt Ideal)) (x3 : (⟨S1x16x512, .f32⟩ : BufTy).Contents (Elt Ideal))
  (x4 : (⟨S1x512, .f32⟩ : BufTy).Contents (Elt Ideal)) (x5 x6 : (⟨S1x1024, .f32⟩ : BufTy).Contents (Elt Ideal))
  (x7 : (⟨S1x8x128x128, .f32⟩ : BufTy).Contents (Elt Ideal)) (x8 : (⟨S1x8x128, .f32⟩ : BufTy).Contents (Elt Ideal))
  (x9 : (⟨S1x1024, .f32⟩ : BufTy).Contents (Elt Ideal)) (x10 : (⟨S1x2048x1024, .f32⟩ : BufTy).Contents (Elt Ideal))
  (x11 : (⟨S1x1024, .f32⟩ : BufTy).Contents (Elt Ideal))

theorem at0 (i : S8x2048x1024.Idx) : x0 i = rd3 x0 (i 0).val (i 1).val (i 2).val := rd3_eq x0 i rfl rfl rfl
theorem at1 (i : S1x1024.Idx) : x1 i = rd2 x1 0 (i 1).val := rd2_eq x1 i (Nat.lt_one_iff.mp (i 0).isLt) rfl
theorem at2 (i : S1x1024x6160.Idx) : x2 i = rd3 x2 0 (i 1).val (i 2).val :=
  rd3_eq x2 i (Nat.lt_one_iff.mp (i 0).isLt) rfl rfl

theorem at3 (i : S1x16x512.Idx) : x3 i = rd3 x3 0 (i 1).val (i 2).val :=
  rd3_eq x3 i (Nat.lt_one_iff.mp (i 0).isLt) rfl rfl
theorem at4 (i : S1x512.Idx) : x4 i = rd2 x4 0 (i 1).val :=
  rd2_eq x4 i (Nat.lt_one_iff.mp (i 0).isLt) rfl
theorem at5 (i : S1x1024.Idx) : x5 i = rd2 x5 0 (i 1).val :=
  rd2_eq x5 i (Nat.lt_one_iff.mp (i 0).isLt) rfl
theorem at6 (i : S1x1024.Idx) : x6 i = rd2 x6 0 (i 1).val :=
  rd2_eq x6 i (Nat.lt_one_iff.mp (i 0).isLt) rfl
theorem at7 (i : S1x8x128x128.Idx) : x7 i = rd4 x7 0 (i 1).val (i 2).val (i 3).val :=
  rd4_eq x7 i (Nat.lt_one_iff.mp (i 0).isLt) rfl rfl rfl
theorem at8 (i : S1x8x128.Idx) : x8 i = rd3 x8 0 (i 1).val (i 2).val :=
  rd3_eq x8 i (Nat.lt_one_iff.mp (i 0).isLt) rfl rfl
theorem at9 (i : S1x1024.Idx) : x9 i = rd2 x9 0 (i 1).val :=
  rd2_eq x9 i (Nat.lt_one_iff.mp (i 0).isLt) rfl
theorem at10 (i : S1x2048x1024.Idx) : x10 i = rd3 x10 0 (i 1).val (i 2).val :=
  rd3_eq x10 i (Nat.lt_one_iff.mp (i 0).isLt) rfl rfl
theorem at11 (i : S1x1024.Idx) : x11 i = rd2 x11 0 (i 1).val :=
  rd2_eq x11 i (Nat.lt_one_iff.mp (i 0).isLt) rfl

/-- The lower triangular mask, as the host writes it. -/
theorem mask128 : ∀ a b : Fin 128, Scalar.select (IntOp.cmpi .sge (IntOp.addi (BitVec.ofNat 32 a.val) 0#32) (BitVec.ofNat 32 b.val)) 1#1 0#1
    = if b.val ≤ a.val then 1#1 else 0#1 := by decide +kernel
theorem mask64 : ∀ a b : Fin 64, Scalar.select (IntOp.cmpi .sge (IntOp.addi (BitVec.ofNat 32 a.val) 0#32) (BitVec.ofNat 32 b.val)) 1#1 0#1
    = if b.val ≤ a.val then 1#1 else 0#1 := by decide +kernel
theorem select_ite {α : Type} (p : Prop) [Decidable p] (a b : α) : Scalar.select (if p then 1#1 else 0#1) a b = if p then a else b := by
  split <;> rfl

theorem une_self (x : EReal) : FloatOps.cmpf (F := Ideal) (φ := .f32) .une x x = 0#1 := by
  simp [Ideal.cmpf_def, Ideal.cmp]
theorem select_zero {α : Type} (a b : α) : Scalar.select 0#1 a b = b := rfl

/-- The arguments with their unit axis dropped. -/
theorem v0_eq (i : S1024.Idx) : val_main_v0 (F := Ideal) x1 i = Args.pg (args x0 x1 x2 x3 x4 x5 x6 x7 x8 x9 x10 x11) (i 0).val := by
  have h0 : (i 0).val < 1024 := (i 0).isLt
  simp only [val_main_v0_apply, at1 x1, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact congrArg (rd2 x1 0) (by omega)

theorem v1_eq (i : S1024x6160.Idx) : val_main_v1 (F := Ideal) x2 i = Args.win (args x0 x1 x2 x3 x4 x5 x6 x7 x8 x9 x10 x11) (i 0).val (i 1).val := by
  have h0 : (i 0).val < 1024 := (i 0).isLt; have h1 : (i 1).val < 6160 := (i 1).isLt
  simp only [val_main_v1_apply, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact congrArg₂ (rd3 x2 0) (by omega) (by omega)

theorem v2_eq (i : S16x512.Idx) : val_main_v2 (F := Ideal) x3 i = Args.wa (args x0 x1 x2 x3 x4 x5 x6 x7 x8 x9 x10 x11) (i 0).val (i 1).val := by
  have h0 : (i 0).val < 16 := (i 0).isLt; have h1 : (i 1).val < 512 := (i 1).isLt
  simp only [val_main_v2_apply, at3 x3, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact congrArg₂ (rd3 x3 0) (by omega) (by omega)

theorem v3_eq (i : S512.Idx) : val_main_v3 (F := Ideal) x4 i = Args.ba (args x0 x1 x2 x3 x4 x5 x6 x7 x8 x9 x10 x11) (i 0).val := by
  have h0 : (i 0).val < 512 := (i 0).isLt
  simp only [val_main_v3_apply, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact congrArg (rd2 x4 0) (by omega)

theorem v4_eq (i : S1024.Idx) : val_main_v4 (F := Ideal) x5 i = Args.lg (args x0 x1 x2 x3 x4 x5 x6 x7 x8 x9 x10 x11) (i 0).val := by
  have h0 : (i 0).val < 1024 := (i 0).isLt
  simp only [val_main_v4_apply, at5 x5, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact congrArg (rd2 x5 0) (by omega)

theorem v5_eq (i : S1024.Idx) : val_main_v5 (F := Ideal) x6 i = Args.lb (args x0 x1 x2 x3 x4 x5 x6 x7 x8 x9 x10 x11) (i 0).val := by
  have h0 : (i 0).val < 1024 := (i 0).isLt
  simp only [val_main_v5_apply, at6 x6, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact congrArg (rd2 x6 0) (by omega)

theorem v6_eq (i : S8x128x128.Idx) : val_main_v6 (F := Ideal) x7 i = Args.ws (args x0 x1 x2 x3 x4 x5 x6 x7 x8 x9 x10 x11) (i 0).val (i 1).val (i 2).val := by
  have h0 : (i 0).val < 8 := (i 0).isLt; have h1 : (i 1).val < 128 := (i 1).isLt; have h2 : (i 2).val < 128 := (i 2).isLt
  simp only [val_main_v6_apply, at7 x7, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  show rd4 x7 0 _ _ _ = rd4 x7 0 _ _ _
  congr 1 <;> omega

theorem v7_eq (i : S8x128.Idx) : val_main_v7 (F := Ideal) x8 i = Args.bs (args x0 x1 x2 x3 x4 x5 x6 x7 x8 x9 x10 x11) (i 0).val (i 1).val := by
  have h0 : (i 0).val < 8 := (i 0).isLt; have h1 : (i 1).val < 128 := (i 1).isLt
  simp only [val_main_v7_apply, at8 x8, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact congrArg₂ (rd3 x8 0) (by omega) (by omega)

theorem v8_eq (i : S1024.Idx) : val_main_v8 (F := Ideal) x9 i = Args.bn (args x0 x1 x2 x3 x4 x5 x6 x7 x8 x9 x10 x11) (i 0).val := by
  have h0 : (i 0).val < 1024 := (i 0).isLt
  simp only [val_main_v8_apply, at9 x9, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact congrArg (rd2 x9 0) (by omega)

theorem v9_eq (i : S2048x1024.Idx) : val_main_v9 (F := Ideal) x10 i = Args.wo (args x0 x1 x2 x3 x4 x5 x6 x7 x8 x9 x10 x11) (i 0).val (i 1).val := by
  have h0 : (i 0).val < 2048 := (i 0).isLt; have h1 : (i 1).val < 1024 := (i 1).isLt
  simp only [val_main_v9_apply, at10 x10, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact congrArg₂ (rd3 x10 0) (by omega) (by omega)

theorem v10_eq (i : S1024.Idx) : val_main_v10 (F := Ideal) x11 i = Args.og (args x0 x1 x2 x3 x4 x5 x6 x7 x8 x9 x10 x11) (i 0).val := by
  have h0 : (i 0).val < 1024 := (i 0).isLt
  simp only [val_main_v10_apply, at11 x11, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact congrArg (rd2 x11 0) (by omega)

/-- The normalised input and its projection. -/
theorem v23_eq (i : S8x2048x1024.Idx) : val_main_v23 (F := Ideal) x0 x1 i = Args.h (args x0 x1 x2 x3 x4 x5 x6 x7 x8 x9 x10 x11) (i 0).val (i 1).val (i 2).val := by
  have h0 : (i 0).val < 8 := (i 0).isLt; have h1 : (i 1).val < 2048 := (i 1).isLt; have h2 : (i 2).val < 1024 := (i 2).isLt
  simp only [val_main_v23_apply, val_main_v20_apply, val_main_v19_apply, val_main_v18_apply, val_main_v17_apply, val_main_v15_apply, val_main_v13_apply, val_main_v12_apply, val_main_v11_apply, val_main_cst_apply, val_main_v14_apply, val_main_cst_0_apply, val_main_v16_apply, val_main_cst_1_apply, val_main_v22_apply, val_main_v21_apply, v0_eq x0 x1 x2 x3 x4 x5 x6 x7 x8 x9 x10 x11, at0 x0, at1 x1, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v24_eq (i : S8x2048x6160.Idx) : val_main_v24 (F := Ideal) x0 x1 x2 i = Args.z (args x0 x1 x2 x3 x4 x5 x6 x7 x8 x9 x10 x11) (i 0).val (i 1).val (i 2).val := by
  have h0 : (i 0).val < 8 := (i 0).isLt; have h1 : (i 1).val < 2048 := (i 1).isLt; have h2 : (i 2).val < 6160 := (i 2).isLt
  simp only [val_main_v24_apply, v1_eq x0 x1 x2 x3 x4 x5 x6 x7 x8 x9 x10 x11, v23_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

/-- The gated branch. -/
theorem v39_eq (i : S8x2048x1024.Idx) : val_main_v39 (F := Ideal) x0 x1 x2 i = gelu (Args.z (args x0 x1 x2 x3 x4 x5 x6 x7 x8 x9 x10 x11) (i 0).val (i 1).val (i 2).val) := by
  have h0 : (i 0).val < 8 := (i 0).isLt; have h1 : (i 1).val < 2048 := (i 1).isLt; have h2 : (i 2).val < 1024 := (i 2).isLt
  simp only [val_main_v39_apply, val_main_v34_apply, val_main_v33_apply, val_main_cst_2_apply, val_main_v25_apply, val_main_v38_apply, val_main_v37_apply, val_main_v35_apply, val_main_v36_apply, val_main_cst_3_apply, v24_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v46_eq (i : S8x2048x1024.Idx) : val_main_v46 (F := Ideal) x0 x1 x2 i = Args.va (args x0 x1 x2 x3 x4 x5 x6 x7 x8 x9 x10 x11) (i 0).val (i 1).val (i 2).val := by
  have h0 : (i 0).val < 8 := (i 0).isLt; have h1 : (i 1).val < 2048 := (i 1).isLt; have h2 : (i 2).val < 1024 := (i 2).isLt
  simp only [val_main_v46_apply, val_main_v41_apply, val_main_v40_apply, val_main_cst_4_apply, val_main_v26_apply, val_main_v45_apply, val_main_v44_apply, val_main_v42_apply, val_main_v43_apply, val_main_cst_5_apply, v24_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v52_eq (i : S8x2048x1024.Idx) : val_main_v52 (F := Ideal) x0 x1 x2 i = Args.vc (args x0 x1 x2 x3 x4 x5 x6 x7 x8 x9 x10 x11) (i 0).val (i 1).val (i 2).val := by
  have h0 : (i 0).val < 8 := (i 0).isLt; have h1 : (i 1).val < 2048 := (i 1).isLt; have h2 : (i 2).val < 1024 := (i 2).isLt
  simp only [val_main_v52_apply, val_main_v51_apply, val_main_v50_apply, val_main_v48_apply, val_main_v47_apply, val_main_cst_6_apply, val_main_v49_apply, val_main_cst_7_apply, v46_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v68_eq (i : S8x2048x1024.Idx) : val_main_v68 (F := Ideal) x0 x1 x2 x5 x6 i = Args.vn (args x0 x1 x2 x3 x4 x5 x6 x7 x8 x9 x10 x11) (i 0).val (i 1).val (i 2).val := by
  have h0 : (i 0).val < 8 := (i 0).isLt; have h1 : (i 1).val < 2048 := (i 1).isLt; have h2 : (i 2).val < 1024 := (i 2).isLt
  simp only [val_main_v68_apply, val_main_v65_apply, val_main_v62_apply, val_main_v61_apply, val_main_v60_apply, val_main_v59_apply, val_main_v57_apply, val_main_v55_apply, val_main_v54_apply, val_main_v53_apply, val_main_cst_8_apply, val_main_v56_apply, val_main_cst_9_apply, val_main_v58_apply, val_main_cst_10_apply, val_main_v64_apply, val_main_v63_apply, val_main_v67_apply, val_main_v66_apply, v4_eq x0 x1 x2 x3 x4 x5 x6 x7 x8 x9 x10 x11, v5_eq x0 x1 x2 x3 x4 x5 x6 x7 x8 x9 x10 x11, v52_eq x0 x1 x2 x3 x4 x5 x6 x7 x8 x9 x10 x11, at0 x0, at1 x1, at2 x2, at5 x5, at6 x6, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v69_eq (i : S8x16x128x8x128.Idx) : val_main_v69 (F := Ideal) x0 x1 x2 x5 x6 i = Args.vn (args x0 x1 x2 x3 x4 x5 x6 x7 x8 x9 x10 x11) (i 0).val ((i 1).val * 128 + (i 2).val) ((i 3).val * 128 + (i 4).val) := by
  have h0 : (i 0).val < 8 := (i 0).isLt; have h1 : (i 1).val < 16 := (i 1).isLt; have h2 : (i 2).val < 128 := (i 2).isLt; have h3 : (i 3).val < 8 := (i 3).isLt; have h4 : (i 4).val < 128 := (i 4).isLt
  simp only [val_main_v69_apply, v68_eq x0 x1 x2 x3 x4 x5 x6 x7 x8 x9 x10 x11, at0 x0, at1 x1, at2 x2, at5 x5, at6 x6, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  congr 1 <;> omega

theorem v71_eq (i : S128x128.Idx) : val_main_v71 (F := Ideal)  i = if (i 1).val ≤ (i 0).val then 1#1 else 0#1 := by
  have h0 : (i 0).val < 128 := (i 0).isLt; have h1 : (i 1).val < 128 := (i 1).isLt
  simp only [val_main_v71_apply, val_main_call0_v4_apply, val_main_call0_v2_apply, val_main_call0_v0_apply, val_main_call0_v1_apply, val_main_call0_c_apply, val_main_call0_v3_apply, val_main_v70_apply, val_main_c_apply, val_main_call0_v5_apply, val_main_call0_c_0_apply, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact mask128 ⟨_, h0⟩ ⟨_, h1⟩

theorem v74_eq (i : S8x128x128.Idx) : val_main_v74 (F := Ideal) x7 i = if (i 2).val ≤ (i 1).val then Args.ws (args x0 x1 x2 x3 x4 x5 x6 x7 x8 x9 x10 x11) (i 0).val (i 1).val (i 2).val else 0 := by
  have h0 : (i 0).val < 8 := (i 0).isLt; have h1 : (i 1).val < 128 := (i 1).isLt; have h2 : (i 2).val < 128 := (i 2).isLt
  simp only [val_main_v74_apply, val_main_call1_v0_apply, val_main_v72_apply, val_main_v73_apply, val_main_cst_11_apply, v6_eq x0 x1 x2 x3 x4 x5 x6 x7 x8 x9 x10 x11, v71_eq, select_ite, at7 x7, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]

theorem v76_eq (i : S8x16x128x8x128.Idx) : val_main_v76 (F := Ideal) x0 x1 x2 x5 x6 x7 i = ∑ k : Fin 128, Args.vn (args x0 x1 x2 x3 x4 x5 x6 x7 x8 x9 x10 x11) (i 0).val ((i 1).val * 128 + k) ((i 3).val * 128 + (i 4).val) * (if (k : ℕ) ≤ (i 2).val then Args.ws (args x0 x1 x2 x3 x4 x5 x6 x7 x8 x9 x10 x11) (i 3).val (i 2).val k else 0) := by
  have h0 : (i 0).val < 8 := (i 0).isLt; have h1 : (i 1).val < 16 := (i 1).isLt; have h2 : (i 2).val < 128 := (i 2).isLt; have h3 : (i 3).val < 8 := (i 3).isLt; have h4 : (i 4).val < 128 := (i 4).isLt
  simp only [val_main_v76_apply, val_main_v75_apply, v69_eq x0 x1 x2 x3 x4 x5 x6 x7 x8 x9 x10 x11, v74_eq x0 x1 x2 x3 x4 x5 x6 x7 x8 x9 x10 x11, at0 x0, at1 x1, at2 x2, at5 x5, at6 x6, at7 x7, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]

theorem v81_eq (i : S8x2048x1024.Idx) : val_main_v81 (F := Ideal) x0 x1 x2 x5 x6 x7 x8 i = Args.sp (args x0 x1 x2 x3 x4 x5 x6 x7 x8 x9 x10 x11) (i 0).val (i 1).val (i 2).val := by
  have h0 : (i 0).val < 8 := (i 0).isLt; have h1 : (i 1).val < 2048 := (i 1).isLt; have h2 : (i 2).val < 1024 := (i 2).isLt
  simp only [val_main_v81_apply, val_main_v80_apply, val_main_v79_apply, val_main_v78_apply, val_main_v77_apply, v7_eq x0 x1 x2 x3 x4 x5 x6 x7 x8 x9 x10 x11, v76_eq x0 x1 x2 x3 x4 x5 x6 x7 x8 x9 x10 x11, at0 x0, at1 x1, at2 x2, at5 x5, at6 x6, at7 x7, at8 x8, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  have a1 : (((i 0).val * 2048 + (i 1).val) * 1024 + (i 2).val) / 2097152 = (i 0).val := by omega
  have a2 : (((i 0).val * 2048 + (i 1).val) * 1024 + (i 2).val) / 131072 % 16 = (i 1).val / 128 := by omega
  have a3 : (((i 0).val * 2048 + (i 1).val) * 1024 + (i 2).val) / 128 % 8 = (i 2).val / 128 := by omega
  have a4 : (((i 0).val * 2048 + (i 1).val) * 1024 + (i 2).val) % 128 = (i 2).val % 128 := by omega
  have a5 : (((i 0).val * 2048 + (i 1).val) * 1024 + (i 2).val) / 1024 % 128 = (i 1).val % 128 := by omega
  simp only [a1, a2, a3, a4, a5, Nat.div_add_mod']
  rfl

theorem v84_eq (i : S8x2048x1024.Idx) : val_main_v84 (F := Ideal) x0 x1 x2 x5 x6 x7 x8 i = Args.aout (args x0 x1 x2 x3 x4 x5 x6 x7 x8 x9 x10 x11) (i 0).val (i 1).val (i 2).val := by
  have h0 : (i 0).val < 8 := (i 0).isLt; have h1 : (i 1).val < 2048 := (i 1).isLt; have h2 : (i 2).val < 1024 := (i 2).isLt
  simp only [val_main_v84_apply, val_main_v82_apply, val_main_v83_apply, val_main_v27_apply, val_main_call2_v5_apply, val_main_call2_v4_apply, val_main_call2_cst_0_apply, val_main_call2_v3_apply, val_main_call2_v2_apply, val_main_call2_cst_apply, val_main_call2_v1_apply, val_main_call2_v0_apply, v24_eq x0 x1 x2 x3 x4 x5 x6 x7 x8 x9 x10 x11, v39_eq x0 x1 x2 x3 x4 x5 x6 x7 x8 x9 x10 x11, v81_eq x0 x1 x2 x3 x4 x5 x6 x7 x8 x9 x10 x11, at0 x0, at1 x1, at2 x2, at5 x5, at6 x6, at7 x7, at8 x8, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v88_eq (i : S8x2048x512.Idx) : val_main_v88 (F := Ideal) x0 x1 x2 x3 x4 i = Args.logit (args x0 x1 x2 x3 x4 x5 x6 x7 x8 x9 x10 x11) (i 0).val (i 1).val (i 2).val := by
  have h0 : (i 0).val < 8 := (i 0).isLt; have h1 : (i 1).val < 2048 := (i 1).isLt; have h2 : (i 2).val < 512 := (i 2).isLt
  simp only [val_main_v88_apply, val_main_v85_apply, val_main_v32_apply, val_main_v87_apply, val_main_v86_apply, v2_eq x0 x1 x2 x3 x4 x5 x6 x7 x8 x9 x10 x11, v3_eq x0 x1 x2 x3 x4 x5 x6 x7 x8 x9 x10 x11, v24_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v91_eq (i : S8x2048x512.Idx) : val_main_v91 (F := Ideal) x0 x1 x2 x3 x4 i = Args.la (args x0 x1 x2 x3 x4 x5 x6 x7 x8 x9 x10 x11) (i 0).val (i 1).val (i 2).val := by
  have h0 : (i 0).val < 8 := (i 0).isLt; have h1 : (i 1).val < 2048 := (i 1).isLt; have h2 : (i 2).val < 512 := (i 2).isLt
  simp only [val_main_v91_apply, val_main_v89_apply, val_main_call3_v1_apply, val_main_call3_call0_v4_apply, val_main_call3_call0_v3_apply, val_main_call3_v0_apply, val_main_call3_call0_v2_apply, val_main_call3_call0_cst_apply, val_main_call3_call0_v6_apply, val_main_call3_call0_v5_apply, val_main_call3_call0_v11_apply, val_main_call3_call0_v1_apply, val_main_call3_call0_v0_apply, val_main_call3_call0_v10_apply, val_main_call3_call0_v9_apply, val_main_call3_call0_v8_apply, val_main_call3_call0_v7_apply, val_main_v90_apply, val_main_cst_12_apply, v88_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  simp only [sub_zero, une_self, select_zero, Ideal.hostAbsf_def, Ideal.absf_def, neg_neg, Ideal.maximumf_def, Ideal.hostUnary_log1p_def]
  rfl

end Cert.Layer.Ref

end
-- ==== Proof.Ref2.lean ====
/- The reference's values, stage by stage: the linear attention's operands by head and chunk, and the decays. -/
module

public import proofs.«01_k».proof.Proof.Pure
public import proofs.«01_k».proof.Proof.Ref1

@[expose] public section

set_option maxRecDepth 16384

noncomputable section

namespace Cert.Layer.Ref

open Idealize.ShloMosaic Cert.ReferenceIdeal Cert.ReferenceIdeal.Gen Cert.ReferenceIdeal.Read

variable (x0 : (⟨S8x2048x1024, .f32⟩ : BufTy).Contents (Elt Ideal)) (x1 : (⟨S1x1024, .f32⟩ : BufTy).Contents (Elt Ideal))
  (x2 : (⟨S1x1024x6160, .f32⟩ : BufTy).Contents (Elt Ideal)) (x3 : (⟨S1x16x512, .f32⟩ : BufTy).Contents (Elt Ideal))
  (x4 : (⟨S1x512, .f32⟩ : BufTy).Contents (Elt Ideal)) (x5 x6 : (⟨S1x1024, .f32⟩ : BufTy).Contents (Elt Ideal))
  (x7 : (⟨S1x8x128x128, .f32⟩ : BufTy).Contents (Elt Ideal)) (x8 : (⟨S1x8x128, .f32⟩ : BufTy).Contents (Elt Ideal))
  (x9 : (⟨S1x1024, .f32⟩ : BufTy).Contents (Elt Ideal)) (x10 : (⟨S1x2048x1024, .f32⟩ : BufTy).Contents (Elt Ideal))
  (x11 : (⟨S1x1024, .f32⟩ : BufTy).Contents (Elt Ideal))

/-- One term of the windowed sum: the position it reads, or the padding. -/
theorem window_term (x : FVec Ideal S8x4x32x64x128 .f32) (i : S8x4x32x64x128.Idx) (n : ℕ) (p lo : Fin 5 → ℕ)
    (hn : n < 64) (hp : ∀ a : Fin 5, p a = (i a).val + if a = 3 then n else 0) (hlo : ∀ a, lo a = if a = 3 then 63 else 0) (z : EReal)
    (hz : z = 0) (inst : Decidable (∀ a : Fin 5, lo a ≤ p a ∧ p a - lo a < S8x4x32x64x128.size a)) :
    (if hin : ∀ a : Fin 5, lo a ≤ p a ∧ p a - lo a < S8x4x32x64x128.size a then x (fun a => ⟨p a - lo a, (hin a).2⟩) else z)
      = if 63 ≤ (i 3).val + n then
          (if h : (i 3).val + n - 63 < 64 then x (ValueIdx.ix5 (i 0) (i 1) (i 2) ⟨(i 3).val + n - 63, h⟩ (i 4)) else 0) else 0 := by
  have h3 : (i 3).val < 64 := (i 3).isLt
  have q : ∀ a : Fin 5, a ≠ 3 → p a - lo a = (i a).val ∧ lo a ≤ p a := fun a ha => by
    rw [hp, hlo, if_neg ha, if_neg ha]; exact ⟨by omega, by omega⟩
  have q3 : p 3 = (i 3).val + n ∧ lo 3 = 63 := ⟨by rw [hp, if_pos rfl], by rw [hlo, if_pos rfl]⟩
  by_cases hc : 63 ≤ (i 3).val + n
  · have hin : ∀ a : Fin 5, lo a ≤ p a ∧ p a - lo a < S8x4x32x64x128.size a := fun a => by
      by_cases ha : a = 3
      · subst ha
        rw [q3.1, q3.2]
        exact ⟨hc, (by omega : (i 3).val + n - 63 < 64)⟩
      · rw [(q a ha).1]
        exact ⟨(q a ha).2, (i a).isLt⟩
    rw [dif_pos hin, if_pos hc, dif_pos (by omega)]
    refine congrArg x (funext fun a => Fin.ext ?_)
    match a with
    | ⟨0, _⟩ => exact (q 0 (by decide)).1
    | ⟨1, _⟩ => exact (q 1 (by decide)).1
    | ⟨2, _⟩ => exact (q 2 (by decide)).1
    | ⟨3, _⟩ => exact (by rw [q3.1, q3.2] : p 3 - lo 3 = (i 3).val + n - 63)
    | ⟨4, _⟩ => exact (q 4 (by decide)).1
  · rw [dif_neg fun h => hc (by have := (h 3).1; rw [q3.1, q3.2] at this; exact this), if_neg hc, hz]

/-- The host's windowed sum over the chunk axis is the running sum within the chunk. -/
theorem cumsum_apply (x : FVec Ideal S8x4x32x64x128 .f32) (v : FVec Ideal S_ .f32) (hv : v (Shape.Idx.first h_S_) = 0)
    (i : S8x4x32x64x128.Idx) :
    Host.reduceWindowAdd ![1, 1, 1, 64, 1] ![1, 1, 1, 1, 1] ![0, 0, 0, 63, 0] ![0, 0, 0, 0, 0] x v reduceWindows_S8x4x32x64x128_S8x4x32x64x128_w1s1p0_0_w1s1p0_0_w1s1p0_0_w64s1p63_0_w1s1p0_0 h_S_ i
      = ∑ k : Fin 64, if (k : ℕ) ≤ (i 3).val then x (ValueIdx.ix5 (i 0) (i 1) (i 2) k (i 4)) else 0 := by
  have h3 : (i 3).val < 64 := (i 3).isLt
  unfold Host.reduceWindowAdd
  rw [Ideal.hostReduceWindowAdd_def, Ideal.hostReduceWindowAdd, hv]
  unfold Host.reduceWindow
  have hW : ∀ n : Fin (Shape.numel ⟨5, ![1, 1, 1, 64, 1]⟩), ∀ a : Fin 5,
      ((Shape.rowMajor ⟨5, ![1, 1, 1, 64, 1]⟩).symm n a).val = if a = 3 then n.val else 0 := by decide +kernel
  have hone : ∀ a : Fin 5, (![1, 1, 1, 1, 1] : Fin 5 → ℕ) a = 1 := by decide
  have hl := window_sum (fun k => if h : k < 64 then x (ValueIdx.ix5 (i 0) (i 1) (i 2) ⟨k, h⟩ (i 4)) else 0) (i 3).val h3
  simp only [Fin.isLt, dite_true, Fin.eta] at hl
  rw [← hl]
  refine (foldl_add_eq (n := 64) _ 0).trans ?_
  rw [zero_add]
  refine Finset.sum_congr rfl fun n _ => ?_
  refine window_term x i n.val (fun a => (i a).val * (![1, 1, 1, 1, 1] : Fin 5 → ℕ) a + ((Shape.rowMajor ⟨5, ![1, 1, 1, 64, 1]⟩).symm n a).val)
    ![0, 0, 0, 63, 0] n.isLt (fun a => ?_) (by decide) _ rfl _
  beta_reduce
  rw [hW n a, hone, Nat.mul_one]

/-- The attention operands by head and chunk. -/
theorem v92_eq (i : S8x2048x4x128.Idx) : val_main_v92 (F := Ideal) x0 x1 x2 i = Args.z (args x0 x1 x2 x3 x4 x5 x6 x7 x8 x9 x10 x11) (i 0).val (i 1).val (3072 + ((i 2).val * 128 + (i 3).val)) := by
  have h0 : (i 0).val < 8 := (i 0).isLt; have h1 : (i 1).val < 2048 := (i 1).isLt; have h2 : (i 2).val < 4 := (i 2).isLt; have h3 : (i 3).val < 128 := (i 3).isLt
  simp only [val_main_v92_apply, val_main_v28_apply, v24_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  congr 1 <;> omega

theorem v93_eq (i : S8x2048x4x128.Idx) : val_main_v93 (F := Ideal) x0 x1 x2 i = Args.z (args x0 x1 x2 x3 x4 x5 x6 x7 x8 x9 x10 x11) (i 0).val (i 1).val (3584 + ((i 2).val * 128 + (i 3).val)) := by
  have h0 : (i 0).val < 8 := (i 0).isLt; have h1 : (i 1).val < 2048 := (i 1).isLt; have h2 : (i 2).val < 4 := (i 2).isLt; have h3 : (i 3).val < 128 := (i 3).isLt
  simp only [val_main_v93_apply, val_main_v29_apply, v24_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  congr 1 <;> omega

theorem v94_eq (i : S8x2048x4x256.Idx) : val_main_v94 (F := Ideal) x0 x1 x2 i = Args.v (args x0 x1 x2 x3 x4 x5 x6 x7 x8 x9 x10 x11) (i 0).val (i 1).val ((i 2).val * 256 + (i 3).val) := by
  have h0 : (i 0).val < 8 := (i 0).isLt; have h1 : (i 1).val < 2048 := (i 1).isLt; have h2 : (i 2).val < 4 := (i 2).isLt; have h3 : (i 3).val < 256 := (i 3).isLt
  simp only [val_main_v94_apply, val_main_v30_apply, v24_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  show Args.z (args x0 x1 x2 x3 x4 x5 x6 x7 x8 x9 x10 x11) _ _ _ = Args.z (args x0 x1 x2 x3 x4 x5 x6 x7 x8 x9 x10 x11) _ _ _
  congr 1 <;> omega

theorem v95_eq (i : S8x2048x4x128.Idx) : val_main_v95 (F := Ideal) x0 x1 x2 x3 x4 i = Args.la (args x0 x1 x2 x3 x4 x5 x6 x7 x8 x9 x10 x11) (i 0).val (i 1).val ((i 2).val * 128 + (i 3).val) := by
  have h0 : (i 0).val < 8 := (i 0).isLt; have h1 : (i 1).val < 2048 := (i 1).isLt; have h2 : (i 2).val < 4 := (i 2).isLt; have h3 : (i 3).val < 128 := (i 3).isLt
  simp only [val_main_v95_apply, v91_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  congr 1 <;> omega

theorem v96_eq (i : S8x32x64x4x128.Idx) : val_main_v96 (F := Ideal) x0 x1 x2 i = Args.z (args x0 x1 x2 x3 x4 x5 x6 x7 x8 x9 x10 x11) (i 0).val ((i 1).val * 64 + (i 2).val) (3072 + ((i 3).val * 128 + (i 4).val)) := by
  have h0 : (i 0).val < 8 := (i 0).isLt; have h1 : (i 1).val < 32 := (i 1).isLt; have h2 : (i 2).val < 64 := (i 2).isLt; have h3 : (i 3).val < 4 := (i 3).isLt; have h4 : (i 4).val < 128 := (i 4).isLt
  simp only [val_main_v96_apply, v92_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  congr 1 <;> omega

theorem v100_eq (i : S8x32x64x4x128.Idx) : val_main_v100 (F := Ideal) x0 x1 x2 i = Args.z (args x0 x1 x2 x3 x4 x5 x6 x7 x8 x9 x10 x11) (i 0).val ((i 1).val * 64 + (i 2).val) (3584 + ((i 3).val * 128 + (i 4).val)) := by
  have h0 : (i 0).val < 8 := (i 0).isLt; have h1 : (i 1).val < 32 := (i 1).isLt; have h2 : (i 2).val < 64 := (i 2).isLt; have h3 : (i 3).val < 4 := (i 3).isLt; have h4 : (i 4).val < 128 := (i 4).isLt
  simp only [val_main_v100_apply, v93_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  congr 1 <;> omega

theorem v102_eq (i : S8x32x64x4x256.Idx) : val_main_v102 (F := Ideal) x0 x1 x2 i = Args.v (args x0 x1 x2 x3 x4 x5 x6 x7 x8 x9 x10 x11) (i 0).val ((i 1).val * 64 + (i 2).val) ((i 3).val * 256 + (i 4).val) := by
  have h0 : (i 0).val < 8 := (i 0).isLt; have h1 : (i 1).val < 32 := (i 1).isLt; have h2 : (i 2).val < 64 := (i 2).isLt; have h3 : (i 3).val < 4 := (i 3).isLt; have h4 : (i 4).val < 256 := (i 4).isLt
  simp only [val_main_v102_apply, v94_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  congr 1 <;> omega

theorem v104_eq (i : S8x32x64x4x128.Idx) : val_main_v104 (F := Ideal) x0 x1 x2 x3 x4 i = Args.la (args x0 x1 x2 x3 x4 x5 x6 x7 x8 x9 x10 x11) (i 0).val ((i 1).val * 64 + (i 2).val) ((i 3).val * 128 + (i 4).val) := by
  have h0 : (i 0).val < 8 := (i 0).isLt; have h1 : (i 1).val < 32 := (i 1).isLt; have h2 : (i 2).val < 64 := (i 2).isLt; have h3 : (i 3).val < 4 := (i 3).isLt; have h4 : (i 4).val < 128 := (i 4).isLt
  simp only [val_main_v104_apply, v95_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  congr 1 <;> omega

theorem v99_eq (i : S8x4x32x64x128.Idx) : val_main_v99 (F := Ideal) x0 x1 x2 i = Args.q (args x0 x1 x2 x3 x4 x5 x6 x7 x8 x9 x10 x11) (i 0).val ((i 2).val * 64 + (i 3).val) ((i 1).val * 128 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 128 := (i 4).isLt
  simp only [val_main_v99_apply, val_main_v97_apply, val_main_v98_apply, val_main_cst_13_apply, v96_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v101_eq (i : S8x4x32x64x128.Idx) : val_main_v101 (F := Ideal) x0 x1 x2 i = Args.k (args x0 x1 x2 x3 x4 x5 x6 x7 x8 x9 x10 x11) (i 0).val ((i 2).val * 64 + (i 3).val) ((i 1).val * 128 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 128 := (i 4).isLt
  simp only [val_main_v101_apply, v100_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v103_eq (i : S8x4x32x64x256.Idx) : val_main_v103 (F := Ideal) x0 x1 x2 i = Args.v (args x0 x1 x2 x3 x4 x5 x6 x7 x8 x9 x10 x11) (i 0).val ((i 2).val * 64 + (i 3).val) ((i 1).val * 256 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 256 := (i 4).isLt
  simp only [val_main_v103_apply, v102_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]

theorem v105_eq (i : S8x4x32x64x128.Idx) : val_main_v105 (F := Ideal) x0 x1 x2 x3 x4 i = Args.la (args x0 x1 x2 x3 x4 x5 x6 x7 x8 x9 x10 x11) (i 0).val ((i 2).val * 64 + (i 3).val) ((i 1).val * 128 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 128 := (i 4).isLt
  simp only [val_main_v105_apply, v104_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]

theorem v106_eq (i : S8x4x32x64x128.Idx) : val_main_v106 (F := Ideal) x0 x1 x2 x3 x4 i = Args.cum (args x0 x1 x2 x3 x4 x5 x6 x7 x8 x9 x10 x11) (i 0).val ((i 2).val * 64 + (i 3).val) ((i 1).val * 128 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 128 := (i 4).isLt
  unfold val_main_v106
  rw [cumsum_apply _ _ (by simp only [val_main_call4_call0_v0_apply, val_main_call4_call0_cst_apply, Ideal.ofBits_def, Ideal.ofBits_zero_f32])]
  simp only [v105_eq x0 x1 x2 x3 x4 x5 x6 x7 x8 x9 x10 x11]
  have e1 : ((i 2).val * 64 + (i 3).val) / 64 = (i 2).val := by omega
  have e2 : ((i 2).val * 64 + (i 3).val) % 64 = (i 3).val := by omega
  simp only [Args.cum, e1, e2]

theorem v112_eq (i : S8x4x32x64x128.Idx) : val_main_v112 (F := Ideal) x0 x1 x2 x3 x4 i = Args.qe (args x0 x1 x2 x3 x4 x5 x6 x7 x8 x9 x10 x11) (i 0).val ((i 2).val * 64 + (i 3).val) ((i 1).val * 128 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 128 := (i 4).isLt
  simp only [val_main_v112_apply, val_main_v111_apply, val_main_v110_apply, val_main_v109_apply, val_main_v108_apply, v99_eq x0 x1 x2 x3 x4 x5 x6 x7 x8 x9 x10 x11, v106_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  have e1 : ((i 2).val * 64 + (i 3).val) / 64 = (i 2).val := by omega
  have e2 : ((i 2).val * 64 + (i 3).val) % 64 = (i 3).val := by omega
  simp only [Args.qe, Args.cumMid, e1]

theorem v116_eq (i : S8x4x32x64x128.Idx) : val_main_v116 (F := Ideal) x0 x1 x2 x3 x4 i = Args.ke (args x0 x1 x2 x3 x4 x5 x6 x7 x8 x9 x10 x11) (i 0).val ((i 2).val * 64 + (i 3).val) ((i 1).val * 128 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 128 := (i 4).isLt
  simp only [val_main_v116_apply, val_main_v115_apply, val_main_v114_apply, val_main_v113_apply, val_main_v108_apply, v101_eq x0 x1 x2 x3 x4 x5 x6 x7 x8 x9 x10 x11, v106_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  have e1 : ((i 2).val * 64 + (i 3).val) / 64 = (i 2).val := by omega
  have e2 : ((i 2).val * 64 + (i 3).val) % 64 = (i 3).val := by omega
  simp only [Args.ke, Args.cumMid, e1]

theorem v125_eq (i : S8x4x32x64x128.Idx) : val_main_v125 (F := Ideal) x0 x1 x2 x3 x4 i = Args.kd (args x0 x1 x2 x3 x4 x5 x6 x7 x8 x9 x10 x11) (i 0).val ((i 2).val * 64 + (i 3).val) ((i 1).val * 128 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 128 := (i 4).isLt
  simp only [val_main_v125_apply, val_main_v124_apply, val_main_v123_apply, val_main_v122_apply, val_main_v107_apply, v101_eq x0 x1 x2 x3 x4 x5 x6 x7 x8 x9 x10 x11, v106_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  have e1 : ((i 2).val * 64 + (i 3).val) / 64 = (i 2).val := by omega
  have e2 : ((i 2).val * 64 + (i 3).val) % 64 = (i 3).val := by omega
  simp only [Args.kd, Args.cumLast, e1]

theorem v117_eq (i : S8x4x32x64x64.Idx) : val_main_v117 (F := Ideal) x0 x1 x2 x3 x4 i = Args.score (args x0 x1 x2 x3 x4 x5 x6 x7 x8 x9 x10 x11) (i 0).val ((i 2).val * 64 + (i 3).val) ((i 2).val * 64 + (i 4).val) (i 1).val := by
  have h0 : (i 0).val < 8 := (i 0).isLt; have h1 : (i 1).val < 4 := (i 1).isLt; have h2 : (i 2).val < 32 := (i 2).isLt; have h3 : (i 3).val < 64 := (i 3).isLt; have h4 : (i 4).val < 64 := (i 4).isLt
  simp only [val_main_v117_apply, v112_eq x0 x1 x2 x3 x4 x5 x6 x7 x8 x9 x10 x11, v116_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v119_eq (i : S64x64.Idx) : val_main_v119 (F := Ideal)  i = if (i 1).val ≤ (i 0).val then 1#1 else 0#1 := by
  have h0 : (i 0).val < 64 := (i 0).isLt; have h1 : (i 1).val < 64 := (i 1).isLt
  simp only [val_main_v119_apply, val_main_call5_v4_apply, val_main_call5_v2_apply, val_main_call5_v0_apply, val_main_call5_v1_apply, val_main_call5_c_apply, val_main_call5_v3_apply, val_main_v118_apply, val_main_c_14_apply, val_main_call5_v5_apply, val_main_call5_c_0_apply, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  exact mask64 ⟨_, h0⟩ ⟨_, h1⟩

theorem v120_eq (i : S8x4x32x64x64.Idx) : val_main_v120 (F := Ideal) x0 x1 x2 x3 x4 i = if (i 4).val ≤ (i 3).val then Args.score (args x0 x1 x2 x3 x4 x5 x6 x7 x8 x9 x10 x11) (i 0).val ((i 2).val * 64 + (i 3).val) ((i 2).val * 64 + (i 4).val) (i 1).val else 0 := by
  have h0 : (i 0).val < 8 := (i 0).isLt; have h1 : (i 1).val < 4 := (i 1).isLt; have h2 : (i 2).val < 32 := (i 2).isLt; have h3 : (i 3).val < 64 := (i 3).isLt; have h4 : (i 4).val < 64 := (i 4).isLt
  simp only [val_main_v120_apply, val_main_call6_v1_apply, val_main_call6_v2_apply, val_main_call6_v0_apply, val_main_cst_15_apply, v117_eq x0 x1 x2 x3 x4 x5 x6 x7 x8 x9 x10 x11, v119_eq, select_ite, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]

theorem v121_eq (i : S8x4x32x64x256.Idx) : val_main_v121 (F := Ideal) x0 x1 x2 x3 x4 i = Args.oIntra (args x0 x1 x2 x3 x4 x5 x6 x7 x8 x9 x10 x11) (i 0).val ((i 2).val * 64 + (i 3).val) ((i 1).val * 256 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 256 := (i 4).isLt
  simp only [val_main_v121_apply, v103_eq x0 x1 x2 x3 x4 x5 x6 x7 x8 x9 x10 x11, v120_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  have e1 : ((i 2).val * 64 + (i 3).val) / 64 = (i 2).val := by omega
  have e2 : ((i 2).val * 64 + (i 3).val) % 64 = (i 3).val := by omega
  have e3 : ((i 1).val * 256 + (i 4).val) / 256 = (i 1).val := by omega
  simp only [Args.oIntra, e1, e2, e3]

theorem v126_eq (i : S8x4x32x128x256.Idx) : val_main_v126 (F := Ideal) x0 x1 x2 x3 x4 i = Args.kv (args x0 x1 x2 x3 x4 x5 x6 x7 x8 x9 x10 x11) (i 0).val (i 2).val (i 3).val ((i 1).val * 256 + (i 4).val) := by
  have h0 : (i 0).val < 8 := (i 0).isLt; have h1 : (i 1).val < 4 := (i 1).isLt; have h2 : (i 2).val < 32 := (i 2).isLt; have h3 : (i 3).val < 128 := (i 3).isLt; have h4 : (i 4).val < 256 := (i 4).isLt
  simp only [val_main_v126_apply, v103_eq x0 x1 x2 x3 x4 x5 x6 x7 x8 x9 x10 x11, v125_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  have e3 : ((i 1).val * 256 + (i 4).val) / 256 = (i 1).val := by omega
  simp only [Args.kv, e3]

theorem v128_eq (i : S8x4x32x128.Idx) : val_main_v128 (F := Ideal) x0 x1 x2 x3 x4 i = Ideal.exp (Args.cum (args x0 x1 x2 x3 x4 x5 x6 x7 x8 x9 x10 x11) (i 0).val ((i 2).val * 64 + 63) ((i 1).val * 128 + (i 3).val)) := by
  have h0 : (i 0).val < 8 := (i 0).isLt; have h1 : (i 1).val < 4 := (i 1).isLt; have h2 : (i 2).val < 32 := (i 2).isLt; have h3 : (i 3).val < 128 := (i 3).isLt
  simp only [val_main_v128_apply, val_main_v127_apply, val_main_v107_apply, v106_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  congr 2 <;> omega

theorem v129_eq (i : S8x4x128x256.Idx) : val_main_v129 (F := Ideal)  i = (0 : EReal) := by
  have h0 : (i 0).val < 8 := (i 0).isLt; have h1 : (i 1).val < 4 := (i 1).isLt; have h2 : (i 2).val < 128 := (i 2).isLt; have h3 : (i 3).val < 256 := (i 3).isLt
  simp only [val_main_v129_apply, val_main_cst_16_apply, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]

set_option maxHeartbeats 4000000 in
/-- Each state is the one before, decayed, plus the chunk's products. -/
theorem steps :
    (∀ i : S8x4x128x256.Idx, val_main_v137 (F := Ideal) x0 x1 x2 x3 x4 i = Ideal.exp (Args.cum (args x0 x1 x2 x3 x4 x5 x6 x7 x8 x9 x10 x11) (i 0).val (0 * 64 + 63) (((i 1).val * 256 + (i 3).val) / 256 * 128 + (i 2).val)) * val_main_v129 (F := Ideal) i + Args.kv (args x0 x1 x2 x3 x4 x5 x6 x7 x8 x9 x10 x11) (i 0).val 0 (i 2).val ((i 1).val * 256 + (i 3).val))
    ∧ (∀ i : S8x4x128x256.Idx, val_main_v145 (F := Ideal) x0 x1 x2 x3 x4 i = Ideal.exp (Args.cum (args x0 x1 x2 x3 x4 x5 x6 x7 x8 x9 x10 x11) (i 0).val (1 * 64 + 63) (((i 1).val * 256 + (i 3).val) / 256 * 128 + (i 2).val)) * val_main_v137 (F := Ideal) x0 x1 x2 x3 x4 i + Args.kv (args x0 x1 x2 x3 x4 x5 x6 x7 x8 x9 x10 x11) (i 0).val 1 (i 2).val ((i 1).val * 256 + (i 3).val))
    ∧ (∀ i : S8x4x128x256.Idx, val_main_v153 (F := Ideal) x0 x1 x2 x3 x4 i = Ideal.exp (Args.cum (args x0 x1 x2 x3 x4 x5 x6 x7 x8 x9 x10 x11) (i 0).val (2 * 64 + 63) (((i 1).val * 256 + (i 3).val) / 256 * 128 + (i 2).val)) * val_main_v145 (F := Ideal) x0 x1 x2 x3 x4 i + Args.kv (args x0 x1 x2 x3 x4 x5 x6 x7 x8 x9 x10 x11) (i 0).val 2 (i 2).val ((i 1).val * 256 + (i 3).val))
    ∧ (∀ i : S8x4x128x256.Idx, val_main_v161 (F := Ideal) x0 x1 x2 x3 x4 i = Ideal.exp (Args.cum (args x0 x1 x2 x3 x4 x5 x6 x7 x8 x9 x10 x11) (i 0).val (3 * 64 + 63) (((i 1).val * 256 + (i 3).val) / 256 * 128 + (i 2).val)) * val_main_v153 (F := Ideal) x0 x1 x2 x3 x4 i + Args.kv (args x0 x1 x2 x3 x4 x5 x6 x7 x8 x9 x10 x11) (i 0).val 3 (i 2).val ((i 1).val * 256 + (i 3).val))
    ∧ (∀ i : S8x4x128x256.Idx, val_main_v169 (F := Ideal) x0 x1 x2 x3 x4 i = Ideal.exp (Args.cum (args x0 x1 x2 x3 x4 x5 x6 x7 x8 x9 x10 x11) (i 0).val (4 * 64 + 63) (((i 1).val * 256 + (i 3).val) / 256 * 128 + (i 2).val)) * val_main_v161 (F := Ideal) x0 x1 x2 x3 x4 i + Args.kv (args x0 x1 x2 x3 x4 x5 x6 x7 x8 x9 x10 x11) (i 0).val 4 (i 2).val ((i 1).val * 256 + (i 3).val))
    ∧ (∀ i : S8x4x128x256.Idx, val_main_v177 (F := Ideal) x0 x1 x2 x3 x4 i = Ideal.exp (Args.cum (args x0 x1 x2 x3 x4 x5 x6 x7 x8 x9 x10 x11) (i 0).val (5 * 64 + 63) (((i 1).val * 256 + (i 3).val) / 256 * 128 + (i 2).val)) * val_main_v169 (F := Ideal) x0 x1 x2 x3 x4 i + Args.kv (args x0 x1 x2 x3 x4 x5 x6 x7 x8 x9 x10 x11) (i 0).val 5 (i 2).val ((i 1).val * 256 + (i 3).val))
    ∧ (∀ i : S8x4x128x256.Idx, val_main_v185 (F := Ideal) x0 x1 x2 x3 x4 i = Ideal.exp (Args.cum (args x0 x1 x2 x3 x4 x5 x6 x7 x8 x9 x10 x11) (i 0).val (6 * 64 + 63) (((i 1).val * 256 + (i 3).val) / 256 * 128 + (i 2).val)) * val_main_v177 (F := Ideal) x0 x1 x2 x3 x4 i + Args.kv (args x0 x1 x2 x3 x4 x5 x6 x7 x8 x9 x10 x11) (i 0).val 6 (i 2).val ((i 1).val * 256 + (i 3).val))
    ∧ (∀ i : S8x4x128x256.Idx, val_main_v193 (F := Ideal) x0 x1 x2 x3 x4 i = Ideal.exp (Args.cum (args x0 x1 x2 x3 x4 x5 x6 x7 x8 x9 x10 x11) (i 0).val (7 * 64 + 63) (((i 1).val * 256 + (i 3).val) / 256 * 128 + (i 2).val)) * val_main_v185 (F := Ideal) x0 x1 x2 x3 x4 i + Args.kv (args x0 x1 x2 x3 x4 x5 x6 x7 x8 x9 x10 x11) (i 0).val 7 (i 2).val ((i 1).val * 256 + (i 3).val))
    ∧ (∀ i : S8x4x128x256.Idx, val_main_v201 (F := Ideal) x0 x1 x2 x3 x4 i = Ideal.exp (Args.cum (args x0 x1 x2 x3 x4 x5 x6 x7 x8 x9 x10 x11) (i 0).val (8 * 64 + 63) (((i 1).val * 256 + (i 3).val) / 256 * 128 + (i 2).val)) * val_main_v193 (F := Ideal) x0 x1 x2 x3 x4 i + Args.kv (args x0 x1 x2 x3 x4 x5 x6 x7 x8 x9 x10 x11) (i 0).val 8 (i 2).val ((i 1).val * 256 + (i 3).val))
    ∧ (∀ i : S8x4x128x256.Idx, val_main_v209 (F := Ideal) x0 x1 x2 x3 x4 i = Ideal.exp (Args.cum (args x0 x1 x2 x3 x4 x5 x6 x7 x8 x9 x10 x11) (i 0).val (9 * 64 + 63) (((i 1).val * 256 + (i 3).val) / 256 * 128 + (i 2).val)) * val_main_v201 (F := Ideal) x0 x1 x2 x3 x4 i + Args.kv (args x0 x1 x2 x3 x4 x5 x6 x7 x8 x9 x10 x11) (i 0).val 9 (i 2).val ((i 1).val * 256 + (i 3).val))
    ∧ (∀ i : S8x4x128x256.Idx, val_main_v217 (F := Ideal) x0 x1 x2 x3 x4 i = Ideal.exp (Args.cum (args x0 x1 x2 x3 x4 x5 x6 x7 x8 x9 x10 x11) (i 0).val (10 * 64 + 63) (((i 1).val * 256 + (i 3).val) / 256 * 128 + (i 2).val)) * val_main_v209 (F := Ideal) x0 x1 x2 x3 x4 i + Args.kv (args x0 x1 x2 x3 x4 x5 x6 x7 x8 x9 x10 x11) (i 0).val 10 (i 2).val ((i 1).val * 256 + (i 3).val))
    ∧ (∀ i : S8x4x128x256.Idx, val_main_v225 (F := Ideal) x0 x1 x2 x3 x4 i = Ideal.exp (Args.cum (args x0 x1 x2 x3 x4 x5 x6 x7 x8 x9 x10 x11) (i 0).val (11 * 64 + 63) (((i 1).val * 256 + (i 3).val) / 256 * 128 + (i 2).val)) * val_main_v217 (F := Ideal) x0 x1 x2 x3 x4 i + Args.kv (args x0 x1 x2 x3 x4 x5 x6 x7 x8 x9 x10 x11) (i 0).val 11 (i 2).val ((i 1).val * 256 + (i 3).val))
    ∧ (∀ i : S8x4x128x256.Idx, val_main_v233 (F := Ideal) x0 x1 x2 x3 x4 i = Ideal.exp (Args.cum (args x0 x1 x2 x3 x4 x5 x6 x7 x8 x9 x10 x11) (i 0).val (12 * 64 + 63) (((i 1).val * 256 + (i 3).val) / 256 * 128 + (i 2).val)) * val_main_v225 (F := Ideal) x0 x1 x2 x3 x4 i + Args.kv (args x0 x1 x2 x3 x4 x5 x6 x7 x8 x9 x10 x11) (i 0).val 12 (i 2).val ((i 1).val * 256 + (i 3).val))
    ∧ (∀ i : S8x4x128x256.Idx, val_main_v241 (F := Ideal) x0 x1 x2 x3 x4 i = Ideal.exp (Args.cum (args x0 x1 x2 x3 x4 x5 x6 x7 x8 x9 x10 x11) (i 0).val (13 * 64 + 63) (((i 1).val * 256 + (i 3).val) / 256 * 128 + (i 2).val)) * val_main_v233 (F := Ideal) x0 x1 x2 x3 x4 i + Args.kv (args x0 x1 x2 x3 x4 x5 x6 x7 x8 x9 x10 x11) (i 0).val 13 (i 2).val ((i 1).val * 256 + (i 3).val))
    ∧ (∀ i : S8x4x128x256.Idx, val_main_v249 (F := Ideal) x0 x1 x2 x3 x4 i = Ideal.exp (Args.cum (args x0 x1 x2 x3 x4 x5 x6 x7 x8 x9 x10 x11) (i 0).val (14 * 64 + 63) (((i 1).val * 256 + (i 3).val) / 256 * 128 + (i 2).val)) * val_main_v241 (F := Ideal) x0 x1 x2 x3 x4 i + Args.kv (args x0 x1 x2 x3 x4 x5 x6 x7 x8 x9 x10 x11) (i 0).val 14 (i 2).val ((i 1).val * 256 + (i 3).val))
    ∧ (∀ i : S8x4x128x256.Idx, val_main_v257 (F := Ideal) x0 x1 x2 x3 x4 i = Ideal.exp (Args.cum (args x0 x1 x2 x3 x4 x5 x6 x7 x8 x9 x10 x11) (i 0).val (15 * 64 + 63) (((i 1).val * 256 + (i 3).val) / 256 * 128 + (i 2).val)) * val_main_v249 (F := Ideal) x0 x1 x2 x3 x4 i + Args.kv (args x0 x1 x2 x3 x4 x5 x6 x7 x8 x9 x10 x11) (i 0).val 15 (i 2).val ((i 1).val * 256 + (i 3).val))
    ∧ (∀ i : S8x4x128x256.Idx, val_main_v265 (F := Ideal) x0 x1 x2 x3 x4 i = Ideal.exp (Args.cum (args x0 x1 x2 x3 x4 x5 x6 x7 x8 x9 x10 x11) (i 0).val (16 * 64 + 63) (((i 1).val * 256 + (i 3).val) / 256 * 128 + (i 2).val)) * val_main_v257 (F := Ideal) x0 x1 x2 x3 x4 i + Args.kv (args x0 x1 x2 x3 x4 x5 x6 x7 x8 x9 x10 x11) (i 0).val 16 (i 2).val ((i 1).val * 256 + (i 3).val))
    ∧ (∀ i : S8x4x128x256.Idx, val_main_v273 (F := Ideal) x0 x1 x2 x3 x4 i = Ideal.exp (Args.cum (args x0 x1 x2 x3 x4 x5 x6 x7 x8 x9 x10 x11) (i 0).val (17 * 64 + 63) (((i 1).val * 256 + (i 3).val) / 256 * 128 + (i 2).val)) * val_main_v265 (F := Ideal) x0 x1 x2 x3 x4 i + Args.kv (args x0 x1 x2 x3 x4 x5 x6 x7 x8 x9 x10 x11) (i 0).val 17 (i 2).val ((i 1).val * 256 + (i 3).val))
    ∧ (∀ i : S8x4x128x256.Idx, val_main_v281 (F := Ideal) x0 x1 x2 x3 x4 i = Ideal.exp (Args.cum (args x0 x1 x2 x3 x4 x5 x6 x7 x8 x9 x10 x11) (i 0).val (18 * 64 + 63) (((i 1).val * 256 + (i 3).val) / 256 * 128 + (i 2).val)) * val_main_v273 (F := Ideal) x0 x1 x2 x3 x4 i + Args.kv (args x0 x1 x2 x3 x4 x5 x6 x7 x8 x9 x10 x11) (i 0).val 18 (i 2).val ((i 1).val * 256 + (i 3).val))
    ∧ (∀ i : S8x4x128x256.Idx, val_main_v289 (F := Ideal) x0 x1 x2 x3 x4 i = Ideal.exp (Args.cum (args x0 x1 x2 x3 x4 x5 x6 x7 x8 x9 x10 x11) (i 0).val (19 * 64 + 63) (((i 1).val * 256 + (i 3).val) / 256 * 128 + (i 2).val)) * val_main_v281 (F := Ideal) x0 x1 x2 x3 x4 i + Args.kv (args x0 x1 x2 x3 x4 x5 x6 x7 x8 x9 x10 x11) (i 0).val 19 (i 2).val ((i 1).val * 256 + (i 3).val))
    ∧ (∀ i : S8x4x128x256.Idx, val_main_v297 (F := Ideal) x0 x1 x2 x3 x4 i = Ideal.exp (Args.cum (args x0 x1 x2 x3 x4 x5 x6 x7 x8 x9 x10 x11) (i 0).val (20 * 64 + 63) (((i 1).val * 256 + (i 3).val) / 256 * 128 + (i 2).val)) * val_main_v289 (F := Ideal) x0 x1 x2 x3 x4 i + Args.kv (args x0 x1 x2 x3 x4 x5 x6 x7 x8 x9 x10 x11) (i 0).val 20 (i 2).val ((i 1).val * 256 + (i 3).val))
    ∧ (∀ i : S8x4x128x256.Idx, val_main_v305 (F := Ideal) x0 x1 x2 x3 x4 i = Ideal.exp (Args.cum (args x0 x1 x2 x3 x4 x5 x6 x7 x8 x9 x10 x11) (i 0).val (21 * 64 + 63) (((i 1).val * 256 + (i 3).val) / 256 * 128 + (i 2).val)) * val_main_v297 (F := Ideal) x0 x1 x2 x3 x4 i + Args.kv (args x0 x1 x2 x3 x4 x5 x6 x7 x8 x9 x10 x11) (i 0).val 21 (i 2).val ((i 1).val * 256 + (i 3).val))
    ∧ (∀ i : S8x4x128x256.Idx, val_main_v313 (F := Ideal) x0 x1 x2 x3 x4 i = Ideal.exp (Args.cum (args x0 x1 x2 x3 x4 x5 x6 x7 x8 x9 x10 x11) (i 0).val (22 * 64 + 63) (((i 1).val * 256 + (i 3).val) / 256 * 128 + (i 2).val)) * val_main_v305 (F := Ideal) x0 x1 x2 x3 x4 i + Args.kv (args x0 x1 x2 x3 x4 x5 x6 x7 x8 x9 x10 x11) (i 0).val 22 (i 2).val ((i 1).val * 256 + (i 3).val))
    ∧ (∀ i : S8x4x128x256.Idx, val_main_v321 (F := Ideal) x0 x1 x2 x3 x4 i = Ideal.exp (Args.cum (args x0 x1 x2 x3 x4 x5 x6 x7 x8 x9 x10 x11) (i 0).val (23 * 64 + 63) (((i 1).val * 256 + (i 3).val) / 256 * 128 + (i 2).val)) * val_main_v313 (F := Ideal) x0 x1 x2 x3 x4 i + Args.kv (args x0 x1 x2 x3 x4 x5 x6 x7 x8 x9 x10 x11) (i 0).val 23 (i 2).val ((i 1).val * 256 + (i 3).val))
    ∧ (∀ i : S8x4x128x256.Idx, val_main_v329 (F := Ideal) x0 x1 x2 x3 x4 i = Ideal.exp (Args.cum (args x0 x1 x2 x3 x4 x5 x6 x7 x8 x9 x10 x11) (i 0).val (24 * 64 + 63) (((i 1).val * 256 + (i 3).val) / 256 * 128 + (i 2).val)) * val_main_v321 (F := Ideal) x0 x1 x2 x3 x4 i + Args.kv (args x0 x1 x2 x3 x4 x5 x6 x7 x8 x9 x10 x11) (i 0).val 24 (i 2).val ((i 1).val * 256 + (i 3).val))
    ∧ (∀ i : S8x4x128x256.Idx, val_main_v337 (F := Ideal) x0 x1 x2 x3 x4 i = Ideal.exp (Args.cum (args x0 x1 x2 x3 x4 x5 x6 x7 x8 x9 x10 x11) (i 0).val (25 * 64 + 63) (((i 1).val * 256 + (i 3).val) / 256 * 128 + (i 2).val)) * val_main_v329 (F := Ideal) x0 x1 x2 x3 x4 i + Args.kv (args x0 x1 x2 x3 x4 x5 x6 x7 x8 x9 x10 x11) (i 0).val 25 (i 2).val ((i 1).val * 256 + (i 3).val))
    ∧ (∀ i : S8x4x128x256.Idx, val_main_v345 (F := Ideal) x0 x1 x2 x3 x4 i = Ideal.exp (Args.cum (args x0 x1 x2 x3 x4 x5 x6 x7 x8 x9 x10 x11) (i 0).val (26 * 64 + 63) (((i 1).val * 256 + (i 3).val) / 256 * 128 + (i 2).val)) * val_main_v337 (F := Ideal) x0 x1 x2 x3 x4 i + Args.kv (args x0 x1 x2 x3 x4 x5 x6 x7 x8 x9 x10 x11) (i 0).val 26 (i 2).val ((i 1).val * 256 + (i 3).val))
    ∧ (∀ i : S8x4x128x256.Idx, val_main_v353 (F := Ideal) x0 x1 x2 x3 x4 i = Ideal.exp (Args.cum (args x0 x1 x2 x3 x4 x5 x6 x7 x8 x9 x10 x11) (i 0).val (27 * 64 + 63) (((i 1).val * 256 + (i 3).val) / 256 * 128 + (i 2).val)) * val_main_v345 (F := Ideal) x0 x1 x2 x3 x4 i + Args.kv (args x0 x1 x2 x3 x4 x5 x6 x7 x8 x9 x10 x11) (i 0).val 27 (i 2).val ((i 1).val * 256 + (i 3).val))
    ∧ (∀ i : S8x4x128x256.Idx, val_main_v361 (F := Ideal) x0 x1 x2 x3 x4 i = Ideal.exp (Args.cum (args x0 x1 x2 x3 x4 x5 x6 x7 x8 x9 x10 x11) (i 0).val (28 * 64 + 63) (((i 1).val * 256 + (i 3).val) / 256 * 128 + (i 2).val)) * val_main_v353 (F := Ideal) x0 x1 x2 x3 x4 i + Args.kv (args x0 x1 x2 x3 x4 x5 x6 x7 x8 x9 x10 x11) (i 0).val 28 (i 2).val ((i 1).val * 256 + (i 3).val))
    ∧ (∀ i : S8x4x128x256.Idx, val_main_v369 (F := Ideal) x0 x1 x2 x3 x4 i = Ideal.exp (Args.cum (args x0 x1 x2 x3 x4 x5 x6 x7 x8 x9 x10 x11) (i 0).val (29 * 64 + 63) (((i 1).val * 256 + (i 3).val) / 256 * 128 + (i 2).val)) * val_main_v361 (F := Ideal) x0 x1 x2 x3 x4 i + Args.kv (args x0 x1 x2 x3 x4 x5 x6 x7 x8 x9 x10 x11) (i 0).val 29 (i 2).val ((i 1).val * 256 + (i 3).val))
    ∧ (∀ i : S8x4x128x256.Idx, val_main_v377 (F := Ideal) x0 x1 x2 x3 x4 i = Ideal.exp (Args.cum (args x0 x1 x2 x3 x4 x5 x6 x7 x8 x9 x10 x11) (i 0).val (30 * 64 + 63) (((i 1).val * 256 + (i 3).val) / 256 * 128 + (i 2).val)) * val_main_v369 (F := Ideal) x0 x1 x2 x3 x4 i + Args.kv (args x0 x1 x2 x3 x4 x5 x6 x7 x8 x9 x10 x11) (i 0).val 30 (i 2).val ((i 1).val * 256 + (i 3).val)) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  (intro i
   have h0 : (i 0).val < 8 := (i 0).isLt; have h1 : (i 1).val < 4 := (i 1).isLt; have h2 : (i 2).val < 128 := (i 2).isLt; have h3 : (i 3).val < 256 := (i 3).isLt
   first | rw [val_main_v377_apply] | rw [val_main_v369_apply] | rw [val_main_v361_apply] | rw [val_main_v353_apply] | rw [val_main_v345_apply] | rw [val_main_v337_apply] | rw [val_main_v329_apply] | rw [val_main_v321_apply] | rw [val_main_v313_apply] | rw [val_main_v305_apply] | rw [val_main_v297_apply] | rw [val_main_v289_apply] | rw [val_main_v281_apply] | rw [val_main_v273_apply] | rw [val_main_v265_apply] | rw [val_main_v257_apply] | rw [val_main_v249_apply] | rw [val_main_v241_apply] | rw [val_main_v233_apply] | rw [val_main_v225_apply] | rw [val_main_v217_apply] | rw [val_main_v209_apply] | rw [val_main_v201_apply] | rw [val_main_v193_apply] | rw [val_main_v185_apply] | rw [val_main_v177_apply] | rw [val_main_v169_apply] | rw [val_main_v161_apply] | rw [val_main_v153_apply] | rw [val_main_v145_apply] | rw [val_main_v137_apply]
   simp only [val_main_v130_apply, val_main_v131_apply, val_main_v132_apply, val_main_v133_apply, val_main_v134_apply, val_main_v135_apply, val_main_v136_apply, val_main_v138_apply, val_main_v139_apply, val_main_v140_apply, val_main_v141_apply, val_main_v142_apply, val_main_v143_apply, val_main_v144_apply, val_main_v146_apply, val_main_v147_apply, val_main_v148_apply, val_main_v149_apply, val_main_v150_apply, val_main_v151_apply, val_main_v152_apply, val_main_v154_apply, val_main_v155_apply, val_main_v156_apply, val_main_v157_apply, val_main_v158_apply, val_main_v159_apply, val_main_v160_apply, val_main_v162_apply, val_main_v163_apply, val_main_v164_apply, val_main_v165_apply, val_main_v166_apply, val_main_v167_apply, val_main_v168_apply, val_main_v170_apply, val_main_v171_apply, val_main_v172_apply, val_main_v173_apply, val_main_v174_apply, val_main_v175_apply, val_main_v176_apply, val_main_v178_apply, val_main_v179_apply, val_main_v180_apply, val_main_v181_apply, val_main_v182_apply, val_main_v183_apply, val_main_v184_apply, val_main_v186_apply, val_main_v187_apply, val_main_v188_apply, val_main_v189_apply, val_main_v190_apply, val_main_v191_apply, val_main_v192_apply, val_main_v194_apply, val_main_v195_apply, val_main_v196_apply, val_main_v197_apply, val_main_v198_apply, val_main_v199_apply, val_main_v200_apply, val_main_v202_apply, val_main_v203_apply, val_main_v204_apply, val_main_v205_apply, val_main_v206_apply, val_main_v207_apply, val_main_v208_apply, val_main_v210_apply, val_main_v211_apply, val_main_v212_apply, val_main_v213_apply, val_main_v214_apply, val_main_v215_apply, val_main_v216_apply, val_main_v218_apply, val_main_v219_apply, val_main_v220_apply, val_main_v221_apply, val_main_v222_apply, val_main_v223_apply, val_main_v224_apply, val_main_v226_apply, val_main_v227_apply, val_main_v228_apply, val_main_v229_apply, val_main_v230_apply, val_main_v231_apply, val_main_v232_apply, val_main_v234_apply, val_main_v235_apply, val_main_v236_apply, val_main_v237_apply, val_main_v238_apply, val_main_v239_apply, val_main_v240_apply, val_main_v242_apply, val_main_v243_apply, val_main_v244_apply, val_main_v245_apply, val_main_v246_apply, val_main_v247_apply, val_main_v248_apply, val_main_v250_apply, val_main_v251_apply, val_main_v252_apply, val_main_v253_apply, val_main_v254_apply, val_main_v255_apply, val_main_v256_apply, val_main_v258_apply, val_main_v259_apply, val_main_v260_apply, val_main_v261_apply, val_main_v262_apply, val_main_v263_apply, val_main_v264_apply, val_main_v266_apply, val_main_v267_apply, val_main_v268_apply, val_main_v269_apply, val_main_v270_apply, val_main_v271_apply, val_main_v272_apply, val_main_v274_apply, val_main_v275_apply, val_main_v276_apply, val_main_v277_apply, val_main_v278_apply, val_main_v279_apply, val_main_v280_apply, val_main_v282_apply, val_main_v283_apply, val_main_v284_apply, val_main_v285_apply, val_main_v286_apply, val_main_v287_apply, val_main_v288_apply, val_main_v290_apply, val_main_v291_apply, val_main_v292_apply, val_main_v293_apply, val_main_v294_apply, val_main_v295_apply, val_main_v296_apply, val_main_v298_apply, val_main_v299_apply, val_main_v300_apply, val_main_v301_apply, val_main_v302_apply, val_main_v303_apply, val_main_v304_apply, val_main_v306_apply, val_main_v307_apply, val_main_v308_apply, val_main_v309_apply, val_main_v310_apply, val_main_v311_apply, val_main_v312_apply, val_main_v314_apply, val_main_v315_apply, val_main_v316_apply, val_main_v317_apply, val_main_v318_apply, val_main_v319_apply, val_main_v320_apply, val_main_v322_apply, val_main_v323_apply, val_main_v324_apply, val_main_v325_apply, val_main_v326_apply, val_main_v327_apply, val_main_v328_apply, val_main_v330_apply, val_main_v331_apply, val_main_v332_apply, val_main_v333_apply, val_main_v334_apply, val_main_v335_apply, val_main_v336_apply, val_main_v338_apply, val_main_v339_apply, val_main_v340_apply, val_main_v341_apply, val_main_v342_apply, val_main_v343_apply, val_main_v344_apply, val_main_v346_apply, val_main_v347_apply, val_main_v348_apply, val_main_v349_apply, val_main_v350_apply, val_main_v351_apply, val_main_v352_apply, val_main_v354_apply, val_main_v355_apply, val_main_v356_apply, val_main_v357_apply, val_main_v358_apply, val_main_v359_apply, val_main_v360_apply, val_main_v362_apply, val_main_v363_apply, val_main_v364_apply, val_main_v365_apply, val_main_v366_apply, val_main_v367_apply, val_main_v368_apply, val_main_v370_apply, val_main_v371_apply, val_main_v372_apply, val_main_v373_apply, val_main_v374_apply, val_main_v375_apply, val_main_v376_apply, v128_eq x0 x1 x2 x3 x4 x5 x6 x7 x8 x9 x10 x11, v126_eq x0 x1 x2 x3 x4 x5 x6 x7 x8 x9 x10 x11, Ideal.addf_def, Ideal.mulf_def]
   refine congrArg₂ (· + ·) (congrArg (· * _) (congrArg Ideal.exp ?_)) ?_ <;> (congr 1 <;> omega))

end Cert.Layer.Ref

end
-- ==== Proof.Ref3.lean ====
/- The reference's values, stage by stage: the carried state over the chunks and the linear attention's output. -/
module

public import proofs.«01_k».proof.Proof.Pure
public import proofs.«01_k».proof.Proof.Ref2
public import Idealize.ShloMosaic.Lib.Pipeline.ValueKit

@[expose] public section

set_option maxRecDepth 16384

noncomputable section

namespace Cert.Layer.Ref

open Idealize.ShloMosaic Cert.ReferenceIdeal Cert.ReferenceIdeal.Gen Cert.ReferenceIdeal.Read

variable (x0 : (⟨S8x2048x1024, .f32⟩ : BufTy).Contents (Elt Ideal)) (x1 : (⟨S1x1024, .f32⟩ : BufTy).Contents (Elt Ideal))
  (x2 : (⟨S1x1024x6160, .f32⟩ : BufTy).Contents (Elt Ideal)) (x3 : (⟨S1x16x512, .f32⟩ : BufTy).Contents (Elt Ideal))
  (x4 : (⟨S1x512, .f32⟩ : BufTy).Contents (Elt Ideal)) (x5 x6 : (⟨S1x1024, .f32⟩ : BufTy).Contents (Elt Ideal))
  (x7 : (⟨S1x8x128x128, .f32⟩ : BufTy).Contents (Elt Ideal)) (x8 : (⟨S1x8x128, .f32⟩ : BufTy).Contents (Elt Ideal))
  (x9 : (⟨S1x1024, .f32⟩ : BufTy).Contents (Elt Ideal)) (x10 : (⟨S1x2048x1024, .f32⟩ : BufTy).Contents (Elt Ideal))
  (x11 : (⟨S1x1024, .f32⟩ : BufTy).Contents (Elt Ideal))

set_option maxHeartbeats 4000000 in
/-- The states one by one. -/
theorem states :
    (∀ i : S8x4x128x256.Idx, val_main_v129 (F := Ideal) i = Args.st (args x0 x1 x2 x3 x4 x5 x6 x7 x8 x9 x10 x11) (i 0).val (i 2).val ((i 1).val * 256 + (i 3).val) 0)
    ∧ (∀ i : S8x4x128x256.Idx, val_main_v137 (F := Ideal) x0 x1 x2 x3 x4 i = Args.st (args x0 x1 x2 x3 x4 x5 x6 x7 x8 x9 x10 x11) (i 0).val (i 2).val ((i 1).val * 256 + (i 3).val) 1)
    ∧ (∀ i : S8x4x128x256.Idx, val_main_v145 (F := Ideal) x0 x1 x2 x3 x4 i = Args.st (args x0 x1 x2 x3 x4 x5 x6 x7 x8 x9 x10 x11) (i 0).val (i 2).val ((i 1).val * 256 + (i 3).val) 2)
    ∧ (∀ i : S8x4x128x256.Idx, val_main_v153 (F := Ideal) x0 x1 x2 x3 x4 i = Args.st (args x0 x1 x2 x3 x4 x5 x6 x7 x8 x9 x10 x11) (i 0).val (i 2).val ((i 1).val * 256 + (i 3).val) 3)
    ∧ (∀ i : S8x4x128x256.Idx, val_main_v161 (F := Ideal) x0 x1 x2 x3 x4 i = Args.st (args x0 x1 x2 x3 x4 x5 x6 x7 x8 x9 x10 x11) (i 0).val (i 2).val ((i 1).val * 256 + (i 3).val) 4)
    ∧ (∀ i : S8x4x128x256.Idx, val_main_v169 (F := Ideal) x0 x1 x2 x3 x4 i = Args.st (args x0 x1 x2 x3 x4 x5 x6 x7 x8 x9 x10 x11) (i 0).val (i 2).val ((i 1).val * 256 + (i 3).val) 5)
    ∧ (∀ i : S8x4x128x256.Idx, val_main_v177 (F := Ideal) x0 x1 x2 x3 x4 i = Args.st (args x0 x1 x2 x3 x4 x5 x6 x7 x8 x9 x10 x11) (i 0).val (i 2).val ((i 1).val * 256 + (i 3).val) 6)
    ∧ (∀ i : S8x4x128x256.Idx, val_main_v185 (F := Ideal) x0 x1 x2 x3 x4 i = Args.st (args x0 x1 x2 x3 x4 x5 x6 x7 x8 x9 x10 x11) (i 0).val (i 2).val ((i 1).val * 256 + (i 3).val) 7)
    ∧ (∀ i : S8x4x128x256.Idx, val_main_v193 (F := Ideal) x0 x1 x2 x3 x4 i = Args.st (args x0 x1 x2 x3 x4 x5 x6 x7 x8 x9 x10 x11) (i 0).val (i 2).val ((i 1).val * 256 + (i 3).val) 8)
    ∧ (∀ i : S8x4x128x256.Idx, val_main_v201 (F := Ideal) x0 x1 x2 x3 x4 i = Args.st (args x0 x1 x2 x3 x4 x5 x6 x7 x8 x9 x10 x11) (i 0).val (i 2).val ((i 1).val * 256 + (i 3).val) 9)
    ∧ (∀ i : S8x4x128x256.Idx, val_main_v209 (F := Ideal) x0 x1 x2 x3 x4 i = Args.st (args x0 x1 x2 x3 x4 x5 x6 x7 x8 x9 x10 x11) (i 0).val (i 2).val ((i 1).val * 256 + (i 3).val) 10)
    ∧ (∀ i : S8x4x128x256.Idx, val_main_v217 (F := Ideal) x0 x1 x2 x3 x4 i = Args.st (args x0 x1 x2 x3 x4 x5 x6 x7 x8 x9 x10 x11) (i 0).val (i 2).val ((i 1).val * 256 + (i 3).val) 11)
    ∧ (∀ i : S8x4x128x256.Idx, val_main_v225 (F := Ideal) x0 x1 x2 x3 x4 i = Args.st (args x0 x1 x2 x3 x4 x5 x6 x7 x8 x9 x10 x11) (i 0).val (i 2).val ((i 1).val * 256 + (i 3).val) 12)
    ∧ (∀ i : S8x4x128x256.Idx, val_main_v233 (F := Ideal) x0 x1 x2 x3 x4 i = Args.st (args x0 x1 x2 x3 x4 x5 x6 x7 x8 x9 x10 x11) (i 0).val (i 2).val ((i 1).val * 256 + (i 3).val) 13)
    ∧ (∀ i : S8x4x128x256.Idx, val_main_v241 (F := Ideal) x0 x1 x2 x3 x4 i = Args.st (args x0 x1 x2 x3 x4 x5 x6 x7 x8 x9 x10 x11) (i 0).val (i 2).val ((i 1).val * 256 + (i 3).val) 14)
    ∧ (∀ i : S8x4x128x256.Idx, val_main_v249 (F := Ideal) x0 x1 x2 x3 x4 i = Args.st (args x0 x1 x2 x3 x4 x5 x6 x7 x8 x9 x10 x11) (i 0).val (i 2).val ((i 1).val * 256 + (i 3).val) 15)
    ∧ (∀ i : S8x4x128x256.Idx, val_main_v257 (F := Ideal) x0 x1 x2 x3 x4 i = Args.st (args x0 x1 x2 x3 x4 x5 x6 x7 x8 x9 x10 x11) (i 0).val (i 2).val ((i 1).val * 256 + (i 3).val) 16)
    ∧ (∀ i : S8x4x128x256.Idx, val_main_v265 (F := Ideal) x0 x1 x2 x3 x4 i = Args.st (args x0 x1 x2 x3 x4 x5 x6 x7 x8 x9 x10 x11) (i 0).val (i 2).val ((i 1).val * 256 + (i 3).val) 17)
    ∧ (∀ i : S8x4x128x256.Idx, val_main_v273 (F := Ideal) x0 x1 x2 x3 x4 i = Args.st (args x0 x1 x2 x3 x4 x5 x6 x7 x8 x9 x10 x11) (i 0).val (i 2).val ((i 1).val * 256 + (i 3).val) 18)
    ∧ (∀ i : S8x4x128x256.Idx, val_main_v281 (F := Ideal) x0 x1 x2 x3 x4 i = Args.st (args x0 x1 x2 x3 x4 x5 x6 x7 x8 x9 x10 x11) (i 0).val (i 2).val ((i 1).val * 256 + (i 3).val) 19)
    ∧ (∀ i : S8x4x128x256.Idx, val_main_v289 (F := Ideal) x0 x1 x2 x3 x4 i = Args.st (args x0 x1 x2 x3 x4 x5 x6 x7 x8 x9 x10 x11) (i 0).val (i 2).val ((i 1).val * 256 + (i 3).val) 20)
    ∧ (∀ i : S8x4x128x256.Idx, val_main_v297 (F := Ideal) x0 x1 x2 x3 x4 i = Args.st (args x0 x1 x2 x3 x4 x5 x6 x7 x8 x9 x10 x11) (i 0).val (i 2).val ((i 1).val * 256 + (i 3).val) 21)
    ∧ (∀ i : S8x4x128x256.Idx, val_main_v305 (F := Ideal) x0 x1 x2 x3 x4 i = Args.st (args x0 x1 x2 x3 x4 x5 x6 x7 x8 x9 x10 x11) (i 0).val (i 2).val ((i 1).val * 256 + (i 3).val) 22)
    ∧ (∀ i : S8x4x128x256.Idx, val_main_v313 (F := Ideal) x0 x1 x2 x3 x4 i = Args.st (args x0 x1 x2 x3 x4 x5 x6 x7 x8 x9 x10 x11) (i 0).val (i 2).val ((i 1).val * 256 + (i 3).val) 23)
    ∧ (∀ i : S8x4x128x256.Idx, val_main_v321 (F := Ideal) x0 x1 x2 x3 x4 i = Args.st (args x0 x1 x2 x3 x4 x5 x6 x7 x8 x9 x10 x11) (i 0).val (i 2).val ((i 1).val * 256 + (i 3).val) 24)
    ∧ (∀ i : S8x4x128x256.Idx, val_main_v329 (F := Ideal) x0 x1 x2 x3 x4 i = Args.st (args x0 x1 x2 x3 x4 x5 x6 x7 x8 x9 x10 x11) (i 0).val (i 2).val ((i 1).val * 256 + (i 3).val) 25)
    ∧ (∀ i : S8x4x128x256.Idx, val_main_v337 (F := Ideal) x0 x1 x2 x3 x4 i = Args.st (args x0 x1 x2 x3 x4 x5 x6 x7 x8 x9 x10 x11) (i 0).val (i 2).val ((i 1).val * 256 + (i 3).val) 26)
    ∧ (∀ i : S8x4x128x256.Idx, val_main_v345 (F := Ideal) x0 x1 x2 x3 x4 i = Args.st (args x0 x1 x2 x3 x4 x5 x6 x7 x8 x9 x10 x11) (i 0).val (i 2).val ((i 1).val * 256 + (i 3).val) 27)
    ∧ (∀ i : S8x4x128x256.Idx, val_main_v353 (F := Ideal) x0 x1 x2 x3 x4 i = Args.st (args x0 x1 x2 x3 x4 x5 x6 x7 x8 x9 x10 x11) (i 0).val (i 2).val ((i 1).val * 256 + (i 3).val) 28)
    ∧ (∀ i : S8x4x128x256.Idx, val_main_v361 (F := Ideal) x0 x1 x2 x3 x4 i = Args.st (args x0 x1 x2 x3 x4 x5 x6 x7 x8 x9 x10 x11) (i 0).val (i 2).val ((i 1).val * 256 + (i 3).val) 29)
    ∧ (∀ i : S8x4x128x256.Idx, val_main_v369 (F := Ideal) x0 x1 x2 x3 x4 i = Args.st (args x0 x1 x2 x3 x4 x5 x6 x7 x8 x9 x10 x11) (i 0).val (i 2).val ((i 1).val * 256 + (i 3).val) 30)
    ∧ (∀ i : S8x4x128x256.Idx, val_main_v377 (F := Ideal) x0 x1 x2 x3 x4 i = Args.st (args x0 x1 x2 x3 x4 x5 x6 x7 x8 x9 x10 x11) (i 0).val (i 2).val ((i 1).val * 256 + (i 3).val) 31) := by
  obtain ⟨s1, s2, s3, s4, s5, s6, s7, s8, s9, s10, s11, s12, s13, s14, s15, s16, s17, s18, s19, s20, s21, s22, s23, s24, s25, s26, s27, s28, s29, s30, s31⟩ := steps x0 x1 x2 x3 x4 x5 x6 x7 x8 x9 x10 x11
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (intro i; simp only [s1, s2, s3, s4, s5, s6, s7, s8, s9, s10, s11, s12, s13, s14, s15, s16, s17, s18, s19, s20, s21, s22, s23, s24, s25, s26, s27, s28, s29, s30, s31, v129_eq, Args.st])

/-- The states of the first sixteen chunks side by side. -/
theorem v418_eq (j : S8x4x16x128x256.Idx) : val_main_v418 (F := Ideal) x0 x1 x2 x3 x4 j
    = Args.st (args x0 x1 x2 x3 x4 x5 x6 x7 x8 x9 x10 x11) (j 0).val (j 3).val ((j 1).val * 256 + (j 4).val) ((j 2).val) := by
  obtain ⟨q0, q1, q2, q3, q4, q5, q6, q7, q8, q9, q10, q11, q12, q13, q14, q15, q16, q17, q18, q19, q20, q21, q22, q23, q24, q25, q26, q27, q28, q29, q30, q31⟩ := states x0 x1 x2 x3 x4 x5 x6 x7 x8 x9 x10 x11
  unfold val_main_v418
  concat_tiles i h
  all_goals (
    simp only [val_main_v386_apply, val_main_v387_apply, val_main_v388_apply, val_main_v389_apply, val_main_v390_apply, val_main_v391_apply, val_main_v392_apply, val_main_v393_apply, val_main_v394_apply, val_main_v395_apply, val_main_v396_apply, val_main_v397_apply, val_main_v398_apply, val_main_v399_apply, val_main_v400_apply, val_main_v401_apply, q0, q1, q2, q3, q4, q5, q6, q7, q8, q9, q10, q11, q12, q13, q14, q15, q16, q17, q18, q19, q20, q21, q22, q23, q24, q25, q26, q27, q28, q29, q30, q31]
    rw [h, ← h0, ← h1, ← h3, ← h4])

/-- The states of the other sixteen chunks side by side. -/
theorem v419_eq (j : S8x4x16x128x256.Idx) : val_main_v419 (F := Ideal) x0 x1 x2 x3 x4 j
    = Args.st (args x0 x1 x2 x3 x4 x5 x6 x7 x8 x9 x10 x11) (j 0).val (j 3).val ((j 1).val * 256 + (j 4).val) (16 + (j 2).val) := by
  obtain ⟨q0, q1, q2, q3, q4, q5, q6, q7, q8, q9, q10, q11, q12, q13, q14, q15, q16, q17, q18, q19, q20, q21, q22, q23, q24, q25, q26, q27, q28, q29, q30, q31⟩ := states x0 x1 x2 x3 x4 x5 x6 x7 x8 x9 x10 x11
  unfold val_main_v419
  concat_tiles i h
  all_goals (
    simp only [val_main_v402_apply, val_main_v403_apply, val_main_v404_apply, val_main_v405_apply, val_main_v406_apply, val_main_v407_apply, val_main_v408_apply, val_main_v409_apply, val_main_v410_apply, val_main_v411_apply, val_main_v412_apply, val_main_v413_apply, val_main_v414_apply, val_main_v415_apply, val_main_v416_apply, val_main_v417_apply, q0, q1, q2, q3, q4, q5, q6, q7, q8, q9, q10, q11, q12, q13, q14, q15, q16, q17, q18, q19, q20, q21, q22, q23, q24, q25, q26, q27, q28, q29, q30, q31]
    rw [h, ← h0, ← h1, ← h3, ← h4])

/-- The state before every chunk. -/
theorem v420_eq (j : S8x4x32x128x256.Idx) : val_main_v420 (F := Ideal) x0 x1 x2 x3 x4 j
    = Args.st (args x0 x1 x2 x3 x4 x5 x6 x7 x8 x9 x10 x11) (j 0).val (j 3).val ((j 1).val * 256 + (j 4).val) (j 2).val := by
  have hj : (j 2).val < 32 := (j 2).isLt
  unfold val_main_v420
  by_cases hc : (j 2).val < 16
  · refine (concatenate_pair_apply_left (s₁ := S8x4x16x128x256) (s₂ := S8x4x16x128x256) (t := S8x4x32x128x256) 2 _ _ _ j rfl (ValueIdx.ix5 (j 0) (j 1) ⟨(j 2).val, hc⟩ (j 3) (j 4)) ?_).trans ((v418_eq x0 x1 x2 x3 x4 x5 x6 x7 x8 x9 x10 x11 _).trans ?_)
    · intro b; match b with | ⟨0, _⟩ => rfl | ⟨1, _⟩ => rfl | ⟨2, _⟩ => rfl | ⟨3, _⟩ => rfl | ⟨4, _⟩ => rfl
    · rfl
  · have e : 16 + ((j 2).val - 16) = (j 2).val := by omega
    refine (concatenate_pair_apply_right (s₁ := S8x4x16x128x256) (s₂ := S8x4x16x128x256) (t := S8x4x32x128x256) 2 _ _ _ j rfl rfl (ValueIdx.ix5 (j 0) (j 1) ⟨(j 2).val - 16, by omega⟩ (j 3) (j 4)) ?_ ?_).trans ((v419_eq x0 x1 x2 x3 x4 x5 x6 x7 x8 x9 x10 x11 _).trans ?_)
    · intro b; match b with | ⟨0, _⟩ => exact fun _ => rfl | ⟨1, _⟩ => exact fun _ => rfl | ⟨2, _⟩ => exact fun h => absurd rfl h | ⟨3, _⟩ => exact fun _ => rfl | ⟨4, _⟩ => exact fun _ => rfl
    · show (j 2).val - 16 + 16 = (j 2).val
      omega
    · exact congrArg (Args.st (args x0 x1 x2 x3 x4 x5 x6 x7 x8 x9 x10 x11) (j 0).val (j 3).val ((j 1).val * 256 + (j 4).val)) e

end Cert.Layer.Ref

end
-- ==== Proof.Ref4.lean ====
/- The reference's values, stage by stage: the two branches side by side, the output projection and the layer. -/
module

public import proofs.«01_k».proof.Proof.Pure
public import proofs.«01_k».proof.Proof.Ref3

@[expose] public section

set_option maxRecDepth 16384

noncomputable section

namespace Cert.Layer.Ref

open Idealize.ShloMosaic Cert.ReferenceIdeal Cert.ReferenceIdeal.Gen Cert.ReferenceIdeal.Read

variable (x0 : (⟨S8x2048x1024, .f32⟩ : BufTy).Contents (Elt Ideal)) (x1 : (⟨S1x1024, .f32⟩ : BufTy).Contents (Elt Ideal))
  (x2 : (⟨S1x1024x6160, .f32⟩ : BufTy).Contents (Elt Ideal)) (x3 : (⟨S1x16x512, .f32⟩ : BufTy).Contents (Elt Ideal))
  (x4 : (⟨S1x512, .f32⟩ : BufTy).Contents (Elt Ideal)) (x5 x6 : (⟨S1x1024, .f32⟩ : BufTy).Contents (Elt Ideal))
  (x7 : (⟨S1x8x128x128, .f32⟩ : BufTy).Contents (Elt Ideal)) (x8 : (⟨S1x8x128, .f32⟩ : BufTy).Contents (Elt Ideal))
  (x9 : (⟨S1x1024, .f32⟩ : BufTy).Contents (Elt Ideal)) (x10 : (⟨S1x2048x1024, .f32⟩ : BufTy).Contents (Elt Ideal))
  (x11 : (⟨S1x1024, .f32⟩ : BufTy).Contents (Elt Ideal))

theorem v422_eq (i : S8x4x32x64x128.Idx) : val_main_v422 (F := Ideal) x0 x1 x2 x3 x4 i = Args.qb (args x0 x1 x2 x3 x4 x5 x6 x7 x8 x9 x10 x11) (i 0).val ((i 2).val * 64 + (i 3).val) ((i 1).val * 128 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 128 := (i 4).isLt
  simp only [val_main_v422_apply, val_main_v421_apply, v99_eq x0 x1 x2 x3 x4 x5 x6 x7 x8 x9 x10 x11, v106_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v423_eq (i : S8x4x32x64x256.Idx) : val_main_v423 (F := Ideal) x0 x1 x2 x3 x4 i = Args.oInter (args x0 x1 x2 x3 x4 x5 x6 x7 x8 x9 x10 x11) (i 0).val ((i 2).val * 64 + (i 3).val) ((i 1).val * 256 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 256 := (i 4).isLt
  simp only [val_main_v423_apply, v420_eq x0 x1 x2 x3 x4 x5 x6 x7 x8 x9 x10 x11, v422_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  have e1 : ((i 2).val * 64 + (i 3).val) / 64 = (i 2).val := by omega
  have e2 : ((i 2).val * 64 + (i 3).val) % 64 = (i 3).val := by omega
  have e3 : ((i 1).val * 256 + (i 4).val) / 256 = (i 1).val := by omega
  simp only [Args.oInter, e1, e3]

theorem v424_eq (i : S8x4x32x64x256.Idx) : val_main_v424 (F := Ideal) x0 x1 x2 x3 x4 i = Args.o (args x0 x1 x2 x3 x4 x5 x6 x7 x8 x9 x10 x11) (i 0).val ((i 2).val * 64 + (i 3).val) ((i 1).val * 256 + (i 4).val) := by
  have h0 : (i 0).val < 8 := (i 0).isLt; have h1 : (i 1).val < 4 := (i 1).isLt; have h2 : (i 2).val < 32 := (i 2).isLt; have h3 : (i 3).val < 64 := (i 3).isLt; have h4 : (i 4).val < 256 := (i 4).isLt
  simp only [val_main_v424_apply, v121_eq x0 x1 x2 x3 x4 x5 x6 x7 x8 x9 x10 x11, v423_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v426_eq (i : S8x2048x4x256.Idx) : val_main_v426 (F := Ideal) x0 x1 x2 x3 x4 i = Args.o (args x0 x1 x2 x3 x4 x5 x6 x7 x8 x9 x10 x11) (i 0).val (i 1).val ((i 2).val * 256 + (i 3).val) := by
  have h0 : (i 0).val < 8 := (i 0).isLt; have h1 : (i 1).val < 2048 := (i 1).isLt; have h2 : (i 2).val < 4 := (i 2).isLt; have h3 : (i 3).val < 256 := (i 3).isLt
  simp only [val_main_v426_apply, val_main_v425_apply, v424_eq x0 x1 x2 x3 x4 x5 x6 x7 x8 x9 x10 x11, at0 x0, at1 x1, at2 x2, at3 x3, at4 x4, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  congr 1 <;> omega

theorem v440_eq (i : S8x2048x4x256.Idx) : val_main_v440 (F := Ideal) x0 x1 x2 x3 x4 x9 i = Args.o (args x0 x1 x2 x3 x4 x5 x6 x7 x8 x9 x10 x11) (i 0).val (i 1).val ((i 2).val * 256 + (i 3).val) * rms 256 c256 (fun u => Args.o (args x0 x1 x2 x3 x4 x5 x6 x7 x8 x9 x10 x11) (i 0).val (i 1).val ((i 2).val * 256 + u)) * Args.bn (args x0 x1 x2 x3 x4 x5 x6 x7 x8 x9 x10 x11) ((i 2).val * 256 + (i 3).val) := by
  have hs : ∀ k, val_main_v428 (F := Ideal) x0 x1 x2 x3 x4 (idx_main_v429 (idx_main_v430 (idx_main_v436 i)) k)
      = Args.o (args x0 x1 x2 x3 x4 x5 x6 x7 x8 x9 x10 x11) (i 0).val (i 1).val ((i 2).val * 256 + k.val) * Args.o (args x0 x1 x2 x3 x4 x5 x6 x7 x8 x9 x10 x11) (i 0).val (i 1).val ((i 2).val * 256 + k.val) := by
    intro k
    rw [val_main_v428_apply, v426_eq x0 x1 x2 x3 x4 x5 x6 x7 x8 x9 x10 x11, Ideal.mulf_def]
  have hb : val_main_v439 (F := Ideal) x9 i = Args.bn (args x0 x1 x2 x3 x4 x5 x6 x7 x8 x9 x10 x11) ((i 2).val * 256 + (i 3).val) := by
    simp only [val_main_v439_apply, val_main_v438_apply, val_main_v427_apply, v8_eq x0 x1 x2 x3 x4 x5 x6 x7 x8 x9 x10 x11]
  rw [val_main_v440_apply, val_main_v437_apply, val_main_v436_apply, val_main_v435_apply, val_main_v434_apply,
    val_main_v432_apply, val_main_v430_apply, val_main_v429_apply,
    Finset.sum_congr rfl (fun k _ => hs k), hb, v426_eq x0 x1 x2 x3 x4 x5 x6 x7 x8 x9 x10 x11]
  simp only [val_main_v431_apply, val_main_v433_apply, val_main_cst_17_apply, val_main_cst_18_apply, val_main_cst_19_apply, Ideal.ofBits_def, Ideal.mulf_def, Ideal.addf_def, Ideal.hostDivf_def, Ideal.hostUnary_rsqrt_def, Ideal.ofBits_zero_f32, zero_add]
  rfl

theorem v441_eq (i : S8x2048x1024.Idx) : val_main_v441 (F := Ideal) x0 x1 x2 x3 x4 x9 i = Args.o (args x0 x1 x2 x3 x4 x5 x6 x7 x8 x9 x10 x11) (i 0).val (i 1).val (i 2).val * rms 256 c256 (fun u => Args.o (args x0 x1 x2 x3 x4 x5 x6 x7 x8 x9 x10 x11) (i 0).val (i 1).val ((i 2).val / 256 * 256 + u)) * Args.bn (args x0 x1 x2 x3 x4 x5 x6 x7 x8 x9 x10 x11) (i 2).val := by
  have h0 : (i 0).val < 8 := (i 0).isLt; have h1 : (i 1).val < 2048 := (i 1).isLt; have h2 : (i 2).val < 1024 := (i 2).isLt
  have e0 : (idx_main_v441 i 0).val = (i 0).val := by
    show (((i 0).val * 2048 + (i 1).val) * 1024 + (i 2).val) / 2097152 = (i 0).val
    omega
  have e1 : (idx_main_v441 i 1).val = (i 1).val := by
    show (((i 0).val * 2048 + (i 1).val) * 1024 + (i 2).val) / 1024 % 2048 = (i 1).val
    omega
  have e2 : (idx_main_v441 i 2).val = (i 2).val / 256 := by
    show (((i 0).val * 2048 + (i 1).val) * 1024 + (i 2).val) / 256 % 4 = (i 2).val / 256
    omega
  have e3 : (i 2).val / 256 * 256 + (idx_main_v441 i 3).val = (i 2).val := by
    show (i 2).val / 256 * 256 + (((i 0).val * 2048 + (i 1).val) * 1024 + (i 2).val) % 256 = (i 2).val
    omega
  rw [val_main_v441_apply, v440_eq x0 x1 x2 x3 x4 x5 x6 x7 x8 x9 x10 x11, e0, e1, e2, e3]

theorem v442_eq (i : S8x2048x1024.Idx) : val_main_v442 (F := Ideal) x0 x1 x2 i = silu (Args.z (args x0 x1 x2 x3 x4 x5 x6 x7 x8 x9 x10 x11) (i 0).val (i 1).val (5120 + (i 2).val)) := by
  have h0 : (i 0).val < 8 := (i 0).isLt; have h1 : (i 1).val < 2048 := (i 1).isLt; have h2 : (i 2).val < 1024 := (i 2).isLt
  simp only [val_main_v442_apply, val_main_v31_apply, val_main_call7_v5_apply, val_main_call7_v4_apply, val_main_call7_cst_0_apply, val_main_call7_v3_apply, val_main_call7_v2_apply, val_main_call7_cst_apply, val_main_call7_v1_apply, val_main_call7_v0_apply, v24_eq x0 x1 x2 x3 x4 x5 x6 x7 x8 x9 x10 x11, at0 x0, at1 x1, at2 x2, Ideal.ofBits_def, Ideal.addf_def, Ideal.subf_def, Ideal.mulf_def, Ideal.hostDivf_def, Ideal.hostUnary_rsqrt_def, Ideal.hostUnary_exp_def, Ideal.hostUnary_erfc_def, Ideal.hostNegf_def, Ideal.negf_def, Ideal.ofBits_zero_f32, Ideal.ofBits_one_f32, zero_add]
  rfl

theorem v443_eq (i : S8x2048x1024.Idx) : val_main_v443 (F := Ideal) x0 x1 x2 x3 x4 x9 i = Args.bout (args x0 x1 x2 x3 x4 x5 x6 x7 x8 x9 x10 x11) (i 0).val (i 1).val (i 2).val := by
  rw [val_main_v443_apply, v441_eq x0 x1 x2 x3 x4 x5 x6 x7 x8 x9 x10 x11, v442_eq x0 x1 x2 x3 x4 x5 x6 x7 x8 x9 x10 x11]
  with_reducible unfold Args.bout
  rw [Ideal.mulf_def]

/-- The two branches side by side. -/
theorem v444_eq (j : S8x2048x2048.Idx) : val_main_v444 (F := Ideal) x0 x1 x2 x3 x4 x5 x6 x7 x8 x9 j
    = Args.mixed (args x0 x1 x2 x3 x4 x5 x6 x7 x8 x9 x10 x11) (j 0).val (j 1).val (j 2).val := by
  have hj : (j 2).val < 2048 := (j 2).isLt
  unfold val_main_v444
  by_cases hc : (j 2).val < 1024
  · refine (concatenate_pair_apply_left (s₁ := S8x2048x1024) (s₂ := S8x2048x1024) (t := S8x2048x2048) 2 _ _ _ j rfl (ValueIdx.ix3 (j 0) (j 1) ⟨(j 2).val, hc⟩) ?_).trans ((v84_eq x0 x1 x2 x3 x4 x5 x6 x7 x8 x9 x10 x11 _).trans ?_)
    · intro b; match b with | ⟨0, _⟩ => rfl | ⟨1, _⟩ => rfl | ⟨2, _⟩ => rfl
    · unfold Args.mixed
      rw [if_pos hc]
  · refine (concatenate_pair_apply_right (s₁ := S8x2048x1024) (s₂ := S8x2048x1024) (t := S8x2048x2048) 2 _ _ _ j rfl rfl (ValueIdx.ix3 (j 0) (j 1) ⟨(j 2).val - 1024, by omega⟩) ?_ ?_).trans ((v443_eq x0 x1 x2 x3 x4 x5 x6 x7 x8 x9 x10 x11 _).trans ?_)
    · intro b; match b with | ⟨0, _⟩ => exact fun _ => rfl | ⟨1, _⟩ => exact fun _ => rfl | ⟨2, _⟩ => exact fun h => absurd rfl h
    · show (j 2).val - 1024 + 1024 = (j 2).val
      omega
    · unfold Args.mixed
      rw [if_neg hc]

theorem v445_eq (i : S8x2048x1024.Idx) : val_main_v445 (F := Ideal) x0 x1 x2 x3 x4 x5 x6 x7 x8 x9 x10 i = Args.y (args x0 x1 x2 x3 x4 x5 x6 x7 x8 x9 x10 x11) (i 0).val (i 1).val (i 2).val := by
  rw [val_main_v445_apply, Finset.sum_congr rfl (fun k _ => congrArg₂ (· * ·)
    (v444_eq x0 x1 x2 x3 x4 x5 x6 x7 x8 x9 x10 x11 (lidx_main_v445 i k)) (v9_eq x0 x1 x2 x3 x4 x5 x6 x7 x8 x9 x10 x11 (ridx_main_v445 i k)))]
  rfl

theorem v459_eq (i : S8x2048x1024.Idx) : val_main_v459 (F := Ideal) x0 x1 x2 x3 x4 x5 x6 x7 x8 x9 x10 x11 i = Args.out (args x0 x1 x2 x3 x4 x5 x6 x7 x8 x9 x10 x11) (i 0).val (i 1).val (i 2).val := by
  have hs : ∀ k, val_main_v446 (F := Ideal) x0 x1 x2 x3 x4 x5 x6 x7 x8 x9 x10 (idx_main_v447 (idx_main_v448 (idx_main_v454 i)) k)
      = Args.y (args x0 x1 x2 x3 x4 x5 x6 x7 x8 x9 x10 x11) (i 0).val (i 1).val k.val * Args.y (args x0 x1 x2 x3 x4 x5 x6 x7 x8 x9 x10 x11) (i 0).val (i 1).val k.val := by
    intro k
    rw [val_main_v446_apply, v445_eq x0 x1 x2 x3 x4 x5 x6 x7 x8 x9 x10 x11, Ideal.mulf_def]
  have hb : val_main_v457 (F := Ideal) x11 i = Args.og (args x0 x1 x2 x3 x4 x5 x6 x7 x8 x9 x10 x11) (i 2).val := by
    simp only [val_main_v457_apply, val_main_v456_apply, v10_eq x0 x1 x2 x3 x4 x5 x6 x7 x8 x9 x10 x11]
  rw [val_main_v459_apply, val_main_v458_apply, val_main_v455_apply, val_main_v454_apply, val_main_v453_apply,
    val_main_v452_apply, val_main_v450_apply, val_main_v448_apply, val_main_v447_apply,
    Finset.sum_congr rfl (fun k _ => hs k), hb, v445_eq x0 x1 x2 x3 x4 x5 x6 x7 x8 x9 x10 x11, at0 x0]
  simp only [val_main_v449_apply, val_main_v451_apply, val_main_cst_20_apply, val_main_cst_21_apply, val_main_cst_22_apply, Ideal.ofBits_def, Ideal.mulf_def, Ideal.addf_def, Ideal.hostDivf_def, Ideal.hostUnary_rsqrt_def, Ideal.ofBits_zero_f32, zero_add]
  rfl

end Cert.Layer.Ref

end
-- ==== Proof.Agree.lean ====
/- The two programs agree: each leaves the layer of its arguments. -/
module

public import proofs.«01_k».proof.Defs
public import proofs.«01_k».proof.Proof.Carry
public import proofs.«01_k».proof.Proof.Ref4
public import proofs.«01_k».proof.Proof.Gen.ReferenceIdeal.Run
public import proofs.«01_k».proof.Proof.Gen.ReferenceIdeal.Read
public import proofs.«01_k».proof.Proof.Gen.KernelIdeal.Value

@[expose] public section

set_option maxRecDepth 16384

noncomputable section

namespace Cert.Layer

open Idealize.ShloMosaic Idealize.SL.Sem

/-- The reference's result over a launch memory is the layer of the arguments it holds. -/
theorem reference_result (m' : (ℓ : Loc Cert.ReferenceIdeal.nD Cert.ReferenceIdeal.τ Cert.ReferenceIdeal.sig) → Buf (Elt Ideal) ℓ)
    (c : Dev Cert.ReferenceIdeal.nD) (i : Cert.ReferenceIdeal.S8x2048x1024.Idx) :
    Cert.ReferenceIdeal.Read.val_main_v459 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) i
      = (args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).out (i 0).val (i 1).val (i 2).val :=
  Ref.v459_eq _ _ _ _ _ _ _ _ _ _ _ _ i

theorem agree : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Value.G13 m c, Cert.KernelIdeal.Value.run m g, ?_⟩
  refine (θ_run Cert.ReferenceIdeal.defs _ _).mono (fun r h c => ⟨(h c).1.trans ?_, (h c).2⟩) (Cert.ReferenceIdeal.Value.run m' g')
  refine (Cert.ReferenceIdeal.Read.val_main_v459_eq (StableHlo.launchContents m' c)).trans ?_
  funext i
  refine (reference_result m' c i).trans ?_
  obtain ⟨h0, h1, h2, h3, h4, h5, h6, h7, h8, h9, h10, h11⟩ := hag c
  rw [h0, h1, h2, h3, h4, h5, h6, h7, h8, h9, h10, h11]
  exact (result m c i).symm

end Cert.Layer

end
-- ==== Proof.lean ====
/- The proof of the certificate's claim. -/
module

public import proofs.«01_k».proof.Defs
public import proofs.«01_k».proof.Proof.Frames
public import proofs.«01_k».proof.Proof.Agree
public import proofs.«01_k».proof.Proof.Gen.KernelIdeal.Value
public import proofs.«01_k».proof.Proof.Gen.ReferenceIdeal.Run
public import proofs.«01_k».proof.Proof.Gen.ReferenceIdeal.Read

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Layer.frame_kernel, Cert.Layer.frame_ideal, Cert.Layer.frame_reference, trivial, Cert.Layer.agree⟩

end Cert.Proof

end
